-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512 : Shape := ⟨3, ![1, 512, 512]⟩
abbrev S512x512 : Shape := ⟨2, ![512, 512]⟩
abbrev S512 : Shape := ⟨1, ![512]⟩
abbrev S4x3x32x512 : Shape := ⟨4, ![4, 3, 32, 512]⟩
abbrev S4x3 : Shape := ⟨2, ![4, 3]⟩
abbrev S_ : Shape := ⟨0, ![]⟩
abbrev S1x1 : Shape := ⟨2, ![1, 1]⟩
abbrev S1x1x32x512 : Shape := ⟨4, ![1, 1, 32, 512]⟩
abbrev S32x512 : Shape := ⟨2, ![32, 512]⟩
abbrev S1x32x512 : Shape := ⟨3, ![1, 32, 512]⟩
abbrev S32 : Shape := ⟨1, ![32]⟩
abbrev S32x1 : Shape := ⟨2, ![32, 1]⟩
abbrev S1x512 : Shape := ⟨2, ![1, 512]⟩

abbrev nBuf : Space → Nat
  | .hbm => 4
  | .vmem => 6
  | .smem => 0
  | _ => 0

abbrev bufTy : (tb : Table) → Fin (tcTables nBuf tb) → BufTy
  | .hbm, ⟨0, _⟩ => ⟨S1x512x512, .bf16⟩
  | .hbm, ⟨1, _⟩ => ⟨S512x512, .bf16⟩
  | .hbm, ⟨2, _⟩ => ⟨S512, .bf16⟩
  | .hbm, ⟨3, _⟩ => ⟨S512x512, .bf16⟩
  | .local _ .vmem, ⟨0, _⟩ => ⟨S1x512x512, .bf16⟩
  | .local _ .vmem, ⟨1, _⟩ => ⟨S512x512, .bf16⟩
  | .local _ .vmem, ⟨2, _⟩ => ⟨S512, .bf16⟩
  | .local _ .vmem, ⟨3, _⟩ => ⟨S512x512, .bf16⟩
  | .local _ .vmem, ⟨4, _⟩ => ⟨S512x512, .bf16⟩
  | .local _ .vmem, ⟨5, _⟩ => ⟨S4x3x32x512, .bf16⟩
  | _, _ => ⟨S1x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c2_i32_32 : BitVec 32) (c0_i32_39 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : BitVec 32 := Scalar.addi v2 c2_i32_32
  let c4_i32_33 : BitVec 32 := 4#32
  let c0_i32_34 : BitVec 32 := 0#32
  let v49 : BitVec 1 := Scalar.cmpi .eq c4_i32_33 c0_i32_34
  let c1_i32_35 : BitVec 32 := 1#32
  let v50 : BitVec 32 := Scalar.select v49 c1_i32_35 c4_i32_33
  let v51 : BitVec 32 := Scalar.remsi v48 v50
  let c0_i32_37 : BitVec 32 := 0#32
  let v53 : BitVec 1 := Scalar.cmpi .slt v51 c0_i32_37
  let c0_i32_38 : BitVec 32 := 0#32
  let v54 : BitVec 1 := Scalar.cmpi .slt v50 c0_i32_38
  let v55 : BitVec 1 := Scalar.xori v53 v54
  let c0_i32_36 : BitVec 32 := 0#32
  let v52 : BitVec 1 := Scalar.cmpi .ne v51 c0_i32_36
  let v56 : BitVec 1 := Scalar.andi v55 v52
  let v57 : BitVec 32 := Scalar.addi v51 v50
  let v58 : BitVec 32 := Scalar.select v56 v57 v51
  let c128_i32 : BitVec 32 := 128#32
  let v59 : BitVec 32 := Scalar.muli v58 c128_i32
  let v60 : BitVec 32 := Scalar.addi v59 c0_i32_39
  let c0_i32_50 : BitVec 32 := 0#32
  ![v60.toNat, 0]
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_32 : BitVec 32 := 2#32
  let v48 : BitVec 32 := Scalar.addi v2 c2_i32_32
  let c4_i32_33 : BitVec 32 := 4#32
  let c0_i32_34 : BitVec 32 := 0#32
  let v49 : BitVec 1 := Scalar.cmpi .eq c4_i32_33 c0_i32_34
  let c1_i32_35 : BitVec 32 := 1#32
  let v50 : BitVec 32 := Scalar.select v49 c1_i32_35 c4_i32_33
  let v51 : BitVec 32 := Scalar.remsi v48 v50
  let c0_i32_37 : BitVec 32 := 0#32
  let v53 : BitVec 1 := Scalar.cmpi .slt v51 c0_i32_37
  let c0_i32_38 : BitVec 32 := 0#32
  let v54 : BitVec 1 := Scalar.cmpi .slt v50 c0_i32_38
  let v55 : BitVec 1 := Scalar.xori v53 v54
  let c0_i32_36 : BitVec 32 := 0#32
  let v52 : BitVec 1 := Scalar.cmpi .ne v51 c0_i32_36
  let v56 : BitVec 1 := Scalar.andi v55 v52
  let v57 : BitVec 32 := Scalar.addi v51 v50
  let v58 : BitVec 32 := Scalar.select v56 v57 v51
  let c1_i32_46 : BitVec 32 := 1#32
  let v61 : BitVec 32 := Scalar.muli v58 c1_i32_46
  let v62 : BitVec 32 := Scalar.addi c0_i32_47 v61
  v62.toNat
def k0_dev5 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_51 : BitVec 32 := 1#32
  let v70 : BitVec 32 := Scalar.addi v2 c1_i32_51
  let c4_i32_52 : BitVec 32 := 4#32
  let c0_i32_53 : BitVec 32 := 0#32
  let v71 : BitVec 1 := Scalar.cmpi .eq c4_i32_52 c0_i32_53
  let c1_i32_54 : BitVec 32 := 1#32
  let v72 : BitVec 32 := Scalar.select v71 c1_i32_54 c4_i32_52
  let v73 : BitVec 32 := Scalar.remsi v70 v72
  let c0_i32_56 : BitVec 32 := 0#32
  let v75 : BitVec 1 := Scalar.cmpi .slt v73 c0_i32_56
  let c0_i32_57 : BitVec 32 := 0#32
  let v76 : BitVec 1 := Scalar.cmpi .slt v72 c0_i32_57
  let v77 : BitVec 1 := Scalar.xori v75 v76
  let c0_i32_55 : BitVec 32 := 0#32
  let v74 : BitVec 1 := Scalar.cmpi .ne v73 c0_i32_55
  let v78 : BitVec 1 := Scalar.andi v77 v74
  let v79 : BitVec 32 := Scalar.addi v73 v72
  let v80 : BitVec 32 := Scalar.select v78 v79 v73
  let c1_i32_66 : BitVec 32 := 1#32
  let v83 : BitVec 32 := Scalar.muli v80 c1_i32_66
  let v84 : BitVec 32 := Scalar.addi c0_i32_67 v83
  v84.toNat
def k0_dev6 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_71 : BitVec 32 := 3#32
  let v92 : BitVec 32 := Scalar.addi v2 c3_i32_71
  let c4_i32_72 : BitVec 32 := 4#32
  let c0_i32_73 : BitVec 32 := 0#32
  let v93 : BitVec 1 := Scalar.cmpi .eq c4_i32_72 c0_i32_73
  let c1_i32_74 : BitVec 32 := 1#32
  let v94 : BitVec 32 := Scalar.select v93 c1_i32_74 c4_i32_72
  let v95 : BitVec 32 := Scalar.remsi v92 v94
  let c0_i32_76 : BitVec 32 := 0#32
  let v97 : BitVec 1 := Scalar.cmpi .slt v95 c0_i32_76
  let c0_i32_77 : BitVec 32 := 0#32
  let v98 : BitVec 1 := Scalar.cmpi .slt v94 c0_i32_77
  let v99 : BitVec 1 := Scalar.xori v97 v98
  let c0_i32_75 : BitVec 32 := 0#32
  let v96 : BitVec 1 := Scalar.cmpi .ne v95 c0_i32_75
  let v100 : BitVec 1 := Scalar.andi v99 v96
  let v101 : BitVec 32 := Scalar.addi v95 v94
  let v102 : BitVec 32 := Scalar.select v100 v101 v95
  let c1_i32_86 : BitVec 32 := 1#32
  let v105 : BitVec 32 := Scalar.muli v102 c1_i32_86
  let v106 : BitVec 32 := Scalar.addi c0_i32_87 v105
  v106.toNat
def k0_dev7 (d0 : Dev nD) : Nat :=
  let c0_i32_106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_91 : BitVec 32 := 2#32
  let v114 : BitVec 32 := Scalar.addi v2 c2_i32_91
  let c4_i32_92 : BitVec 32 := 4#32
  let c0_i32_93 : BitVec 32 := 0#32
  let v115 : BitVec 1 := Scalar.cmpi .eq c4_i32_92 c0_i32_93
  let c1_i32_94 : BitVec 32 := 1#32
  let v116 : BitVec 32 := Scalar.select v115 c1_i32_94 c4_i32_92
  let v117 : BitVec 32 := Scalar.remsi v114 v116
  let c0_i32_96 : BitVec 32 := 0#32
  let v119 : BitVec 1 := Scalar.cmpi .slt v117 c0_i32_96
  let c0_i32_97 : BitVec 32 := 0#32
  let v120 : BitVec 1 := Scalar.cmpi .slt v116 c0_i32_97
  let v121 : BitVec 1 := Scalar.xori v119 v120
  let c0_i32_95 : BitVec 32 := 0#32
  let v118 : BitVec 1 := Scalar.cmpi .ne v117 c0_i32_95
  let v122 : BitVec 1 := Scalar.andi v121 v118
  let v123 : BitVec 32 := Scalar.addi v117 v116
  let v124 : BitVec 32 := Scalar.select v122 v123 v117
  let c1_i32_105 : BitVec 32 := 1#32
  let v127 : BitVec 32 := Scalar.muli v124 c1_i32_105
  let v128 : BitVec 32 := Scalar.addi c0_i32_106 v127
  v128.toNat
def k0_dev8 (d0 : Dev nD) : Nat :=
  let c0_i32_126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_110 : BitVec 32 := 1#32
  let v136 : BitVec 32 := Scalar.addi v2 c1_i32_110
  let c4_i32_111 : BitVec 32 := 4#32
  let c0_i32_112 : BitVec 32 := 0#32
  let v137 : BitVec 1 := Scalar.cmpi .eq c4_i32_111 c0_i32_112
  let c1_i32_113 : BitVec 32 := 1#32
  let v138 : BitVec 32 := Scalar.select v137 c1_i32_113 c4_i32_111
  let v139 : BitVec 32 := Scalar.remsi v136 v138
  let c0_i32_115 : BitVec 32 := 0#32
  let v141 : BitVec 1 := Scalar.cmpi .slt v139 c0_i32_115
  let c0_i32_116 : BitVec 32 := 0#32
  let v142 : BitVec 1 := Scalar.cmpi .slt v138 c0_i32_116
  let v143 : BitVec 1 := Scalar.xori v141 v142
  let c0_i32_114 : BitVec 32 := 0#32
  let v140 : BitVec 1 := Scalar.cmpi .ne v139 c0_i32_114
  let v144 : BitVec 1 := Scalar.andi v143 v140
  let v145 : BitVec 32 := Scalar.addi v139 v138
  let v146 : BitVec 32 := Scalar.select v144 v145 v139
  let c1_i32_125 : BitVec 32 := 1#32
  let v149 : BitVec 32 := Scalar.muli v146 c1_i32_125
  let v150 : BitVec 32 := Scalar.addi c0_i32_126 v149
  v150.toNat
def k0_dev9 (d0 : Dev nD) : Nat :=
  let c0_i32_146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_130 : BitVec 32 := 3#32
  let v158 : BitVec 32 := Scalar.addi v2 c3_i32_130
  let c4_i32_131 : BitVec 32 := 4#32
  let c0_i32_132 : BitVec 32 := 0#32
  let v159 : BitVec 1 := Scalar.cmpi .eq c4_i32_131 c0_i32_132
  let c1_i32_133 : BitVec 32 := 1#32
  let v160 : BitVec 32 := Scalar.select v159 c1_i32_133 c4_i32_131
  let v161 : BitVec 32 := Scalar.remsi v158 v160
  let c0_i32_135 : BitVec 32 := 0#32
  let v163 : BitVec 1 := Scalar.cmpi .slt v161 c0_i32_135
  let c0_i32_136 : BitVec 32 := 0#32
  let v164 : BitVec 1 := Scalar.cmpi .slt v160 c0_i32_136
  let v165 : BitVec 1 := Scalar.xori v163 v164
  let c0_i32_134 : BitVec 32 := 0#32
  let v162 : BitVec 1 := Scalar.cmpi .ne v161 c0_i32_134
  let v166 : BitVec 1 := Scalar.andi v165 v162
  let v167 : BitVec 32 := Scalar.addi v161 v160
  let v168 : BitVec 32 := Scalar.select v166 v167 v161
  let c1_i32_145 : BitVec 32 := 1#32
  let v171 : BitVec 32 := Scalar.muli v168 c1_i32_145
  let v172 : BitVec 32 := Scalar.addi c0_i32_146 v171
  v172.toNat
def k0_dev10 (d0 : Dev nD) : Nat :=
  let c0_i32_165 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_150 : BitVec 32 := 2#32
  let v180 : BitVec 32 := Scalar.addi v2 c2_i32_150
  let c4_i32_151 : BitVec 32 := 4#32
  let c0_i32_152 : BitVec 32 := 0#32
  let v181 : BitVec 1 := Scalar.cmpi .eq c4_i32_151 c0_i32_152
  let c1_i32_153 : BitVec 32 := 1#32
  let v182 : BitVec 32 := Scalar.select v181 c1_i32_153 c4_i32_151
  let v183 : BitVec 32 := Scalar.remsi v180 v182
  let c0_i32_155 : BitVec 32 := 0#32
  let v185 : BitVec 1 := Scalar.cmpi .slt v183 c0_i32_155
  let c0_i32_156 : BitVec 32 := 0#32
  let v186 : BitVec 1 := Scalar.cmpi .slt v182 c0_i32_156
  let v187 : BitVec 1 := Scalar.xori v185 v186
  let c0_i32_154 : BitVec 32 := 0#32
  let v184 : BitVec 1 := Scalar.cmpi .ne v183 c0_i32_154
  let v188 : BitVec 1 := Scalar.andi v187 v184
  let v189 : BitVec 32 := Scalar.addi v183 v182
  let v190 : BitVec 32 := Scalar.select v188 v189 v183
  let c1_i32_164 : BitVec 32 := 1#32
  let v193 : BitVec 32 := Scalar.muli v190 c1_i32_164
  let v194 : BitVec 32 := Scalar.addi c0_i32_165 v193
  v194.toNat
def k0_dev11 (d0 : Dev nD) : Nat :=
  let c0_i32_185 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_169 : BitVec 32 := 1#32
  let v202 : BitVec 32 := Scalar.addi v2 c1_i32_169
  let c4_i32_170 : BitVec 32 := 4#32
  let c0_i32_171 : BitVec 32 := 0#32
  let v203 : BitVec 1 := Scalar.cmpi .eq c4_i32_170 c0_i32_171
  let c1_i32_172 : BitVec 32 := 1#32
  let v204 : BitVec 32 := Scalar.select v203 c1_i32_172 c4_i32_170
  let v205 : BitVec 32 := Scalar.remsi v202 v204
  let c0_i32_174 : BitVec 32 := 0#32
  let v207 : BitVec 1 := Scalar.cmpi .slt v205 c0_i32_174
  let c0_i32_175 : BitVec 32 := 0#32
  let v208 : BitVec 1 := Scalar.cmpi .slt v204 c0_i32_175
  let v209 : BitVec 1 := Scalar.xori v207 v208
  let c0_i32_173 : BitVec 32 := 0#32
  let v206 : BitVec 1 := Scalar.cmpi .ne v205 c0_i32_173
  let v210 : BitVec 1 := Scalar.andi v209 v206
  let v211 : BitVec 32 := Scalar.addi v205 v204
  let v212 : BitVec 32 := Scalar.select v210 v211 v205
  let c1_i32_184 : BitVec 32 := 1#32
  let v215 : BitVec 32 := Scalar.muli v212 c1_i32_184
  let v216 : BitVec 32 := Scalar.addi c0_i32_185 v215
  v216.toNat
def k0_dev12 (d0 : Dev nD) : Nat :=
  let c0_i32_205 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_189 : BitVec 32 := 3#32
  let v224 : BitVec 32 := Scalar.addi v2 c3_i32_189
  let c4_i32_190 : BitVec 32 := 4#32
  let c0_i32_191 : BitVec 32 := 0#32
  let v225 : BitVec 1 := Scalar.cmpi .eq c4_i32_190 c0_i32_191
  let c1_i32_192 : BitVec 32 := 1#32
  let v226 : BitVec 32 := Scalar.select v225 c1_i32_192 c4_i32_190
  let v227 : BitVec 32 := Scalar.remsi v224 v226
  let c0_i32_194 : BitVec 32 := 0#32
  let v229 : BitVec 1 := Scalar.cmpi .slt v227 c0_i32_194
  let c0_i32_195 : BitVec 32 := 0#32
  let v230 : BitVec 1 := Scalar.cmpi .slt v226 c0_i32_195
  let v231 : BitVec 1 := Scalar.xori v229 v230
  let c0_i32_193 : BitVec 32 := 0#32
  let v228 : BitVec 1 := Scalar.cmpi .ne v227 c0_i32_193
  let v232 : BitVec 1 := Scalar.andi v231 v228
  let v233 : BitVec 32 := Scalar.addi v227 v226
  let v234 : BitVec 32 := Scalar.select v232 v233 v227
  let c1_i32_204 : BitVec 32 := 1#32
  let v237 : BitVec 32 := Scalar.muli v234 c1_i32_204
  let v238 : BitVec 32 := Scalar.addi c0_i32_205 v237
  v238.toNat
def k0_dev13 (d0 : Dev nD) : Nat :=
  let c0_i32_224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_209 : BitVec 32 := 2#32
  let v246 : BitVec 32 := Scalar.addi v2 c2_i32_209
  let c4_i32_210 : BitVec 32 := 4#32
  let c0_i32_211 : BitVec 32 := 0#32
  let v247 : BitVec 1 := Scalar.cmpi .eq c4_i32_210 c0_i32_211
  let c1_i32_212 : BitVec 32 := 1#32
  let v248 : BitVec 32 := Scalar.select v247 c1_i32_212 c4_i32_210
  let v249 : BitVec 32 := Scalar.remsi v246 v248
  let c0_i32_214 : BitVec 32 := 0#32
  let v251 : BitVec 1 := Scalar.cmpi .slt v249 c0_i32_214
  let c0_i32_215 : BitVec 32 := 0#32
  let v252 : BitVec 1 := Scalar.cmpi .slt v248 c0_i32_215
  let v253 : BitVec 1 := Scalar.xori v251 v252
  let c0_i32_213 : BitVec 32 := 0#32
  let v250 : BitVec 1 := Scalar.cmpi .ne v249 c0_i32_213
  let v254 : BitVec 1 := Scalar.andi v253 v250
  let v255 : BitVec 32 := Scalar.addi v249 v248
  let v256 : BitVec 32 := Scalar.select v254 v255 v249
  let c1_i32_223 : BitVec 32 := 1#32
  let v259 : BitVec 32 := Scalar.muli v256 c1_i32_223
  let v260 : BitVec 32 := Scalar.addi c0_i32_224 v259
  v260.toNat
def k0_dev14 (d0 : Dev nD) : Nat :=
  let c0_i32_244 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_228 : BitVec 32 := 1#32
  let v268 : BitVec 32 := Scalar.addi v2 c1_i32_228
  let c4_i32_229 : BitVec 32 := 4#32
  let c0_i32_230 : BitVec 32 := 0#32
  let v269 : BitVec 1 := Scalar.cmpi .eq c4_i32_229 c0_i32_230
  let c1_i32_231 : BitVec 32 := 1#32
  let v270 : BitVec 32 := Scalar.select v269 c1_i32_231 c4_i32_229
  let v271 : BitVec 32 := Scalar.remsi v268 v270
  let c0_i32_233 : BitVec 32 := 0#32
  let v273 : BitVec 1 := Scalar.cmpi .slt v271 c0_i32_233
  let c0_i32_234 : BitVec 32 := 0#32
  let v274 : BitVec 1 := Scalar.cmpi .slt v270 c0_i32_234
  let v275 : BitVec 1 := Scalar.xori v273 v274
  let c0_i32_232 : BitVec 32 := 0#32
  let v272 : BitVec 1 := Scalar.cmpi .ne v271 c0_i32_232
  let v276 : BitVec 1 := Scalar.andi v275 v272
  let v277 : BitVec 32 := Scalar.addi v271 v270
  let v278 : BitVec 32 := Scalar.select v276 v277 v271
  let c1_i32_243 : BitVec 32 := 1#32
  let v281 : BitVec 32 := Scalar.muli v278 c1_i32_243
  let v282 : BitVec 32 := Scalar.addi c0_i32_244 v281
  v282.toNat
def k0_dev15 (d0 : Dev nD) : Nat :=
  let c0_i32_264 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_248 : BitVec 32 := 3#32
  let v290 : BitVec 32 := Scalar.addi v2 c3_i32_248
  let c4_i32_249 : BitVec 32 := 4#32
  let c0_i32_250 : BitVec 32 := 0#32
  let v291 : BitVec 1 := Scalar.cmpi .eq c4_i32_249 c0_i32_250
  let c1_i32_251 : BitVec 32 := 1#32
  let v292 : BitVec 32 := Scalar.select v291 c1_i32_251 c4_i32_249
  let v293 : BitVec 32 := Scalar.remsi v290 v292
  let c0_i32_253 : BitVec 32 := 0#32
  let v295 : BitVec 1 := Scalar.cmpi .slt v293 c0_i32_253
  let c0_i32_254 : BitVec 32 := 0#32
  let v296 : BitVec 1 := Scalar.cmpi .slt v292 c0_i32_254
  let v297 : BitVec 1 := Scalar.xori v295 v296
  let c0_i32_252 : BitVec 32 := 0#32
  let v294 : BitVec 1 := Scalar.cmpi .ne v293 c0_i32_252
  let v298 : BitVec 1 := Scalar.andi v297 v294
  let v299 : BitVec 32 := Scalar.addi v293 v292
  let v300 : BitVec 32 := Scalar.select v298 v299 v293
  let c1_i32_263 : BitVec 32 := 1#32
  let v303 : BitVec 32 := Scalar.muli v300 c1_i32_263
  let v304 : BitVec 32 := Scalar.addi c0_i32_264 v303
  v304.toNat
def k0_off2 (d0 : Dev nD) (c0_i32_269 : BitVec 32) : Fin 3 → Nat :=
  let c0_270 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_268 : BitVec 32 := 128#32
  let v312 : BitVec 32 := Scalar.muli v2 c128_i32_268
  let v313 : BitVec 32 := Scalar.addi v312 c0_i32_269
  let v314 : Index := Scalar.indexCast v313
  let c0_271 : Index := 0#32
  ![0, v314.toNat, 0]
def k0_off3 (d0 : Dev nD) (c0_i32_269 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_268 : BitVec 32 := 128#32
  let v312 : BitVec 32 := Scalar.muli v2 c128_i32_268
  let v313 : BitVec 32 := Scalar.addi v312 c0_i32_269
  let v317 : Index := Scalar.indexCast v313
  let c0_272 : Index := 0#32
  ![v317.toNat, 0]
def k0_off4 (d0 : Dev nD) (c0_i32_269 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_268 : BitVec 32 := 128#32
  let v312 : BitVec 32 := Scalar.muli v2 c128_i32_268
  let v313 : BitVec 32 := Scalar.addi v312 c0_i32_269
  let c0_i32_333 : BitVec 32 := 0#32
  ![v313.toNat, 0]
def k0_dev16 (d0 : Dev nD) : Nat :=
  let c0_i32_332 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_320 : BitVec 32 := 2#32
  let v374 : BitVec 32 := Scalar.addi v2 c2_i32_320
  let c4_i32_321 : BitVec 32 := 4#32
  let c0_i32_322 : BitVec 32 := 0#32
  let v375 : BitVec 1 := Scalar.cmpi .eq c4_i32_321 c0_i32_322
  let c1_i32_323 : BitVec 32 := 1#32
  let v376 : BitVec 32 := Scalar.select v375 c1_i32_323 c4_i32_321
  let v377 : BitVec 32 := Scalar.remsi v374 v376
  let c0_i32_325 : BitVec 32 := 0#32
  let v379 : BitVec 1 := Scalar.cmpi .slt v377 c0_i32_325
  let c0_i32_326 : BitVec 32 := 0#32
  let v380 : BitVec 1 := Scalar.cmpi .slt v376 c0_i32_326
  let v381 : BitVec 1 := Scalar.xori v379 v380
  let c0_i32_324 : BitVec 32 := 0#32
  let v378 : BitVec 1 := Scalar.cmpi .ne v377 c0_i32_324
  let v382 : BitVec 1 := Scalar.andi v381 v378
  let v383 : BitVec 32 := Scalar.addi v377 v376
  let v384 : BitVec 32 := Scalar.select v382 v383 v377
  let c1_i32_331 : BitVec 32 := 1#32
  let v385 : BitVec 32 := Scalar.muli v384 c1_i32_331
  let v386 : BitVec 32 := Scalar.addi c0_i32_332 v385
  v386.toNat
def k0_dev17 (d0 : Dev nD) : Nat :=
  let c0_i32_347 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_335 : BitVec 32 := 1#32
  let v393 : BitVec 32 := Scalar.addi v2 c1_i32_335
  let c4_i32_336 : BitVec 32 := 4#32
  let c0_i32_337 : BitVec 32 := 0#32
  let v394 : BitVec 1 := Scalar.cmpi .eq c4_i32_336 c0_i32_337
  let c1_i32_338 : BitVec 32 := 1#32
  let v395 : BitVec 32 := Scalar.select v394 c1_i32_338 c4_i32_336
  let v396 : BitVec 32 := Scalar.remsi v393 v395
  let c0_i32_340 : BitVec 32 := 0#32
  let v398 : BitVec 1 := Scalar.cmpi .slt v396 c0_i32_340
  let c0_i32_341 : BitVec 32 := 0#32
  let v399 : BitVec 1 := Scalar.cmpi .slt v395 c0_i32_341
  let v400 : BitVec 1 := Scalar.xori v398 v399
  let c0_i32_339 : BitVec 32 := 0#32
  let v397 : BitVec 1 := Scalar.cmpi .ne v396 c0_i32_339
  let v401 : BitVec 1 := Scalar.andi v400 v397
  let v402 : BitVec 32 := Scalar.addi v396 v395
  let v403 : BitVec 32 := Scalar.select v401 v402 v396
  let c1_i32_346 : BitVec 32 := 1#32
  let v404 : BitVec 32 := Scalar.muli v403 c1_i32_346
  let v405 : BitVec 32 := Scalar.addi c0_i32_347 v404
  v405.toNat
def k0_dev18 (d0 : Dev nD) : Nat :=
  let c0_i32_362 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_350 : BitVec 32 := 3#32
  let v412 : BitVec 32 := Scalar.addi v2 c3_i32_350
  let c4_i32_351 : BitVec 32 := 4#32
  let c0_i32_352 : BitVec 32 := 0#32
  let v413 : BitVec 1 := Scalar.cmpi .eq c4_i32_351 c0_i32_352
  let c1_i32_353 : BitVec 32 := 1#32
  let v414 : BitVec 32 := Scalar.select v413 c1_i32_353 c4_i32_351
  let v415 : BitVec 32 := Scalar.remsi v412 v414
  let c0_i32_355 : BitVec 32 := 0#32
  let v417 : BitVec 1 := Scalar.cmpi .slt v415 c0_i32_355
  let c0_i32_356 : BitVec 32 := 0#32
  let v418 : BitVec 1 := Scalar.cmpi .slt v414 c0_i32_356
  let v419 : BitVec 1 := Scalar.xori v417 v418
  let c0_i32_354 : BitVec 32 := 0#32
  let v416 : BitVec 1 := Scalar.cmpi .ne v415 c0_i32_354
  let v420 : BitVec 1 := Scalar.andi v419 v416
  let v421 : BitVec 32 := Scalar.addi v415 v414
  let v422 : BitVec 32 := Scalar.select v420 v421 v415
  let c1_i32_361 : BitVec 32 := 1#32
  let v423 : BitVec 32 := Scalar.muli v422 c1_i32_361
  let v424 : BitVec 32 := Scalar.addi c0_i32_362 v423
  v424.toNat
def k0_dev19 (d0 : Dev nD) : Nat :=
  let c0_i32_432 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_420 : BitVec 32 := 2#32
  let v493 : BitVec 32 := Scalar.addi v2 c2_i32_420
  let c4_i32_421 : BitVec 32 := 4#32
  let c0_i32_422 : BitVec 32 := 0#32
  let v494 : BitVec 1 := Scalar.cmpi .eq c4_i32_421 c0_i32_422
  let c1_i32_423 : BitVec 32 := 1#32
  let v495 : BitVec 32 := Scalar.select v494 c1_i32_423 c4_i32_421
  let v496 : BitVec 32 := Scalar.remsi v493 v495
  let c0_i32_425 : BitVec 32 := 0#32
  let v498 : BitVec 1 := Scalar.cmpi .slt v496 c0_i32_425
  let c0_i32_426 : BitVec 32 := 0#32
  let v499 : BitVec 1 := Scalar.cmpi .slt v495 c0_i32_426
  let v500 : BitVec 1 := Scalar.xori v498 v499
  let c0_i32_424 : BitVec 32 := 0#32
  let v497 : BitVec 1 := Scalar.cmpi .ne v496 c0_i32_424
  let v501 : BitVec 1 := Scalar.andi v500 v497
  let v502 : BitVec 32 := Scalar.addi v496 v495
  let v503 : BitVec 32 := Scalar.select v501 v502 v496
  let c1_i32_431 : BitVec 32 := 1#32
  let v504 : BitVec 32 := Scalar.muli v503 c1_i32_431
  let v505 : BitVec 32 := Scalar.addi c0_i32_432 v504
  v505.toNat
def k0_dev20 (d0 : Dev nD) : Nat :=
  let c0_i32_447 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_435 : BitVec 32 := 1#32
  let v512 : BitVec 32 := Scalar.addi v2 c1_i32_435
  let c4_i32_436 : BitVec 32 := 4#32
  let c0_i32_437 : BitVec 32 := 0#32
  let v513 : BitVec 1 := Scalar.cmpi .eq c4_i32_436 c0_i32_437
  let c1_i32_438 : BitVec 32 := 1#32
  let v514 : BitVec 32 := Scalar.select v513 c1_i32_438 c4_i32_436
  let v515 : BitVec 32 := Scalar.remsi v512 v514
  let c0_i32_440 : BitVec 32 := 0#32
  let v517 : BitVec 1 := Scalar.cmpi .slt v515 c0_i32_440
  let c0_i32_441 : BitVec 32 := 0#32
  let v518 : BitVec 1 := Scalar.cmpi .slt v514 c0_i32_441
  let v519 : BitVec 1 := Scalar.xori v517 v518
  let c0_i32_439 : BitVec 32 := 0#32
  let v516 : BitVec 1 := Scalar.cmpi .ne v515 c0_i32_439
  let v520 : BitVec 1 := Scalar.andi v519 v516
  let v521 : BitVec 32 := Scalar.addi v515 v514
  let v522 : BitVec 32 := Scalar.select v520 v521 v515
  let c1_i32_446 : BitVec 32 := 1#32
  let v523 : BitVec 32 := Scalar.muli v522 c1_i32_446
  let v524 : BitVec 32 := Scalar.addi c0_i32_447 v523
  v524.toNat
def k0_dev21 (d0 : Dev nD) : Nat :=
  let c0_i32_462 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_450 : BitVec 32 := 3#32
  let v531 : BitVec 32 := Scalar.addi v2 c3_i32_450
  let c4_i32_451 : BitVec 32 := 4#32
  let c0_i32_452 : BitVec 32 := 0#32
  let v532 : BitVec 1 := Scalar.cmpi .eq c4_i32_451 c0_i32_452
  let c1_i32_453 : BitVec 32 := 1#32
  let v533 : BitVec 32 := Scalar.select v532 c1_i32_453 c4_i32_451
  let v534 : BitVec 32 := Scalar.remsi v531 v533
  let c0_i32_455 : BitVec 32 := 0#32
  let v536 : BitVec 1 := Scalar.cmpi .slt v534 c0_i32_455
  let c0_i32_456 : BitVec 32 := 0#32
  let v537 : BitVec 1 := Scalar.cmpi .slt v533 c0_i32_456
  let v538 : BitVec 1 := Scalar.xori v536 v537
  let c0_i32_454 : BitVec 32 := 0#32
  let v535 : BitVec 1 := Scalar.cmpi .ne v534 c0_i32_454
  let v539 : BitVec 1 := Scalar.andi v538 v535
  let v540 : BitVec 32 := Scalar.addi v534 v533
  let v541 : BitVec 32 := Scalar.select v539 v540 v534
  let c1_i32_461 : BitVec 32 := 1#32
  let v542 : BitVec 32 := Scalar.muli v541 c1_i32_461
  let v543 : BitVec 32 := Scalar.addi c0_i32_462 v542
  v543.toNat
def k0_dev22 (d0 : Dev nD) : Nat :=
  let c0_i32_532 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_520 : BitVec 32 := 2#32
  let v612 : BitVec 32 := Scalar.addi v2 c2_i32_520
  let c4_i32_521 : BitVec 32 := 4#32
  let c0_i32_522 : BitVec 32 := 0#32
  let v613 : BitVec 1 := Scalar.cmpi .eq c4_i32_521 c0_i32_522
  let c1_i32_523 : BitVec 32 := 1#32
  let v614 : BitVec 32 := Scalar.select v613 c1_i32_523 c4_i32_521
  let v615 : BitVec 32 := Scalar.remsi v612 v614
  let c0_i32_525 : BitVec 32 := 0#32
  let v617 : BitVec 1 := Scalar.cmpi .slt v615 c0_i32_525
  let c0_i32_526 : BitVec 32 := 0#32
  let v618 : BitVec 1 := Scalar.cmpi .slt v614 c0_i32_526
  let v619 : BitVec 1 := Scalar.xori v617 v618
  let c0_i32_524 : BitVec 32 := 0#32
  let v616 : BitVec 1 := Scalar.cmpi .ne v615 c0_i32_524
  let v620 : BitVec 1 := Scalar.andi v619 v616
  let v621 : BitVec 32 := Scalar.addi v615 v614
  let v622 : BitVec 32 := Scalar.select v620 v621 v615
  let c1_i32_531 : BitVec 32 := 1#32
  let v623 : BitVec 32 := Scalar.muli v622 c1_i32_531
  let v624 : BitVec 32 := Scalar.addi c0_i32_532 v623
  v624.toNat
def k0_dev23 (d0 : Dev nD) : Nat :=
  let c0_i32_547 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_535 : BitVec 32 := 1#32
  let v631 : BitVec 32 := Scalar.addi v2 c1_i32_535
  let c4_i32_536 : BitVec 32 := 4#32
  let c0_i32_537 : BitVec 32 := 0#32
  let v632 : BitVec 1 := Scalar.cmpi .eq c4_i32_536 c0_i32_537
  let c1_i32_538 : BitVec 32 := 1#32
  let v633 : BitVec 32 := Scalar.select v632 c1_i32_538 c4_i32_536
  let v634 : BitVec 32 := Scalar.remsi v631 v633
  let c0_i32_540 : BitVec 32 := 0#32
  let v636 : BitVec 1 := Scalar.cmpi .slt v634 c0_i32_540
  let c0_i32_541 : BitVec 32 := 0#32
  let v637 : BitVec 1 := Scalar.cmpi .slt v633 c0_i32_541
  let v638 : BitVec 1 := Scalar.xori v636 v637
  let c0_i32_539 : BitVec 32 := 0#32
  let v635 : BitVec 1 := Scalar.cmpi .ne v634 c0_i32_539
  let v639 : BitVec 1 := Scalar.andi v638 v635
  let v640 : BitVec 32 := Scalar.addi v634 v633
  let v641 : BitVec 32 := Scalar.select v639 v640 v634
  let c1_i32_546 : BitVec 32 := 1#32
  let v642 : BitVec 32 := Scalar.muli v641 c1_i32_546
  let v643 : BitVec 32 := Scalar.addi c0_i32_547 v642
  v643.toNat
def k0_dev24 (d0 : Dev nD) : Nat :=
  let c0_i32_562 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_550 : BitVec 32 := 3#32
  let v650 : BitVec 32 := Scalar.addi v2 c3_i32_550
  let c4_i32_551 : BitVec 32 := 4#32
  let c0_i32_552 : BitVec 32 := 0#32
  let v651 : BitVec 1 := Scalar.cmpi .eq c4_i32_551 c0_i32_552
  let c1_i32_553 : BitVec 32 := 1#32
  let v652 : BitVec 32 := Scalar.select v651 c1_i32_553 c4_i32_551
  let v653 : BitVec 32 := Scalar.remsi v650 v652
  let c0_i32_555 : BitVec 32 := 0#32
  let v655 : BitVec 1 := Scalar.cmpi .slt v653 c0_i32_555
  let c0_i32_556 : BitVec 32 := 0#32
  let v656 : BitVec 1 := Scalar.cmpi .slt v652 c0_i32_556
  let v657 : BitVec 1 := Scalar.xori v655 v656
  let c0_i32_554 : BitVec 32 := 0#32
  let v654 : BitVec 1 := Scalar.cmpi .ne v653 c0_i32_554
  let v658 : BitVec 1 := Scalar.andi v657 v654
  let v659 : BitVec 32 := Scalar.addi v653 v652
  let v660 : BitVec 32 := Scalar.select v658 v659 v653
  let c1_i32_561 : BitVec 32 := 1#32
  let v661 : BitVec 32 := Scalar.muli v660 c1_i32_561
  let v662 : BitVec 32 := Scalar.addi c0_i32_562 v661
  v662.toNat
def k0_dev25 (d0 : Dev nD) : Nat :=
  let c0_i32_631 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_619 : BitVec 32 := 2#32
  let v731 : BitVec 32 := Scalar.addi v2 c2_i32_619
  let c4_i32_620 : BitVec 32 := 4#32
  let c0_i32_621 : BitVec 32 := 0#32
  let v732 : BitVec 1 := Scalar.cmpi .eq c4_i32_620 c0_i32_621
  let c1_i32_622 : BitVec 32 := 1#32
  let v733 : BitVec 32 := Scalar.select v732 c1_i32_622 c4_i32_620
  let v734 : BitVec 32 := Scalar.remsi v731 v733
  let c0_i32_624 : BitVec 32 := 0#32
  let v736 : BitVec 1 := Scalar.cmpi .slt v734 c0_i32_624
  let c0_i32_625 : BitVec 32 := 0#32
  let v737 : BitVec 1 := Scalar.cmpi .slt v733 c0_i32_625
  let v738 : BitVec 1 := Scalar.xori v736 v737
  let c0_i32_623 : BitVec 32 := 0#32
  let v735 : BitVec 1 := Scalar.cmpi .ne v734 c0_i32_623
  let v739 : BitVec 1 := Scalar.andi v738 v735
  let v740 : BitVec 32 := Scalar.addi v734 v733
  let v741 : BitVec 32 := Scalar.select v739 v740 v734
  let c1_i32_630 : BitVec 32 := 1#32
  let v742 : BitVec 32 := Scalar.muli v741 c1_i32_630
  let v743 : BitVec 32 := Scalar.addi c0_i32_631 v742
  v743.toNat
def k0_dev26 (d0 : Dev nD) : Nat :=
  let c0_i32_646 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_634 : BitVec 32 := 1#32
  let v750 : BitVec 32 := Scalar.addi v2 c1_i32_634
  let c4_i32_635 : BitVec 32 := 4#32
  let c0_i32_636 : BitVec 32 := 0#32
  let v751 : BitVec 1 := Scalar.cmpi .eq c4_i32_635 c0_i32_636
  let c1_i32_637 : BitVec 32 := 1#32
  let v752 : BitVec 32 := Scalar.select v751 c1_i32_637 c4_i32_635
  let v753 : BitVec 32 := Scalar.remsi v750 v752
  let c0_i32_639 : BitVec 32 := 0#32
  let v755 : BitVec 1 := Scalar.cmpi .slt v753 c0_i32_639
  let c0_i32_640 : BitVec 32 := 0#32
  let v756 : BitVec 1 := Scalar.cmpi .slt v752 c0_i32_640
  let v757 : BitVec 1 := Scalar.xori v755 v756
  let c0_i32_638 : BitVec 32 := 0#32
  let v754 : BitVec 1 := Scalar.cmpi .ne v753 c0_i32_638
  let v758 : BitVec 1 := Scalar.andi v757 v754
  let v759 : BitVec 32 := Scalar.addi v753 v752
  let v760 : BitVec 32 := Scalar.select v758 v759 v753
  let c1_i32_645 : BitVec 32 := 1#32
  let v761 : BitVec 32 := Scalar.muli v760 c1_i32_645
  let v762 : BitVec 32 := Scalar.addi c0_i32_646 v761
  v762.toNat
def k0_dev27 (d0 : Dev nD) : Nat :=
  let c0_i32_661 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_649 : BitVec 32 := 3#32
  let v769 : BitVec 32 := Scalar.addi v2 c3_i32_649
  let c4_i32_650 : BitVec 32 := 4#32
  let c0_i32_651 : BitVec 32 := 0#32
  let v770 : BitVec 1 := Scalar.cmpi .eq c4_i32_650 c0_i32_651
  let c1_i32_652 : BitVec 32 := 1#32
  let v771 : BitVec 32 := Scalar.select v770 c1_i32_652 c4_i32_650
  let v772 : BitVec 32 := Scalar.remsi v769 v771
  let c0_i32_654 : BitVec 32 := 0#32
  let v774 : BitVec 1 := Scalar.cmpi .slt v772 c0_i32_654
  let c0_i32_655 : BitVec 32 := 0#32
  let v775 : BitVec 1 := Scalar.cmpi .slt v771 c0_i32_655
  let v776 : BitVec 1 := Scalar.xori v774 v775
  let c0_i32_653 : BitVec 32 := 0#32
  let v773 : BitVec 1 := Scalar.cmpi .ne v772 c0_i32_653
  let v777 : BitVec 1 := Scalar.andi v776 v773
  let v778 : BitVec 32 := Scalar.addi v772 v771
  let v779 : BitVec 32 := Scalar.select v777 v778 v772
  let c1_i32_660 : BitVec 32 := 1#32
  let v780 : BitVec 32 := Scalar.muli v779 c1_i32_660
  let v781 : BitVec 32 := Scalar.addi c0_i32_661 v780
  v781.toNat
abbrev stage0_0 : Fin 1 → Memref sig .tc .vmem S1x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x512x512 : Shape := ⟨3, ![4, 512, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩

abbrev nBuf : Space → Nat
  | .hbm => 26
  | .vmem => 0
  | .smem => 0
  | _ => 0

abbrev bufTy : (tb : Table) → Fin (tcTables nBuf tb) → BufTy
  | .hbm, ⟨0, _⟩ => ⟨S4x512x512, .bf16⟩
  | .hbm, ⟨1, _⟩ => ⟨S512x512, .bf16⟩
  | .hbm, ⟨2, _⟩ => ⟨S512, .bf16⟩
  | .hbm, ⟨3, _⟩ => ⟨S4x512x512, .f32⟩
  | .hbm, ⟨4, _⟩ => ⟨S_, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x1, .f32⟩
  | .hbm, ⟨19, _⟩ => ⟨S512x512, .f32⟩
  | .hbm, ⟨20, _⟩ => ⟨S512x512, .f32⟩
  | .hbm, ⟨21, _⟩ => ⟨S512, .f32⟩
  | .hbm, ⟨22, _⟩ => ⟨S1x512, .f32⟩
  | .hbm, ⟨23, _⟩ => ⟨S512x512, .f32⟩
  | .hbm, ⟨24, _⟩ => ⟨S512x512, .f32⟩
  | .hbm, ⟨25, _⟩ => ⟨S512x512, .bf16⟩
  | _, _ => ⟨S4x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.Program.lean ====
/-
The kernel's body, regrouped: the printed straight line of statements written as the loops it came from, over the
block index `b` and the offset index `o` (device `c` sends to device `c + o + 1` along offset index `o`).
-/
module

public import proofs.«01_k».proof.Proof.Gen.KernelIdeal
public import proofs.«01_k».proof.Proof.Gen.KernelIdeal.Skeleton

@[expose] public section

noncomputable section

namespace Cert.Run

open Cert.KernelIdeal Cert.KernelIdeal.Gen
open Idealize.ShloMosaic Idealize.SL.Sem

variable {F : FTy → Type} [FloatOps F]

/-! ## The buffers and semaphores -/

abbrev xM : Memref sig .tc .vmem S1x512x512 .bf16 := Memref.whole cc0_stg0_0
abbrev rM : Memref sig .tc .vmem S512x512 .bf16 := Memref.whole cc0_stg1_0
abbrev gM : Memref sig .tc .vmem S512 .bf16 := Memref.whole cc0_stg2_0
abbrev oM : Memref sig .tc .vmem S512x512 .bf16 := Memref.whole cc0_stg3_0
abbrev sM : Memref sig .tc .vmem S512x512 .bf16 := Memref.whole cc0_scratch0
abbrev lM : Memref sig .tc .vmem S4x3x32x512 .bf16 := Memref.whole cc0_scratch1

/-- The barrier semaphore every device signals to every other before any transfer. -/
abbrev barS : Sem sig := (SemArray.scalar (sig.barrier 0 rfl) : Sems sig S_).sem

theorem inb_sem : ∀ (b : Fin 4) (o : Fin 3), ∀ a, (![b.val, o.val] : Fin 2 → Nat) a + S1x1.size a ≤ S4x3.size a := by decide
/-- Entry `(b, o)` of a 4 by 3 array of DMA semaphores. -/
def semAt (A : DmaSems sig S4x3) (b : Fin 4) (o : Fin 3) : DmaSem sig :=
  ((A.slice (Rect.unit (s := S4x3) ![b.val, o.val] S1x1.size (inb_sem b o))).squeeze S_ squeezes_S1x1_S_).sem

/-- The device `o + 1` places after `c`, as the kernel's three barrier signals compute it. -/
def tgt (c : Dev nD) (o : Fin 3) : Dev nD :=
  match o with
  | 0 => ⟨k0_dev1 c, k0_dev1_lt c⟩
  | 1 => ⟨k0_dev2 c, k0_dev2_lt c⟩
  | 2 => ⟨k0_dev3 c, k0_dev3_lt c⟩

/-! ## The pieces the kernel addresses -/

/-- The 32 rows of the send buffer that go to device `tgt c o` as its block `b`. -/
def srcV (c : Dev nD) (b : Fin 4) (o : Fin 3) : Memref sig .tc .vmem S32x512 .bf16 :=
  sM.slice (Rect.unit (s := S512x512) (k0_off1 c (BitVec.ofNat 32 (1 + o.val)) (BitVec.ofNat 32 (32 * b.val))) S32x512.size (k0_off1_inb c o b)) (fun _ => rfl)
theorem srcV_exact (c : Dev nD) (b : Fin 4) (o : Fin 3) : (srcV c b o).view.WordExact :=
  (Memref.isWhole_whole cc0_scratch0).wordExact_slice rfl _ (k0_off1_wordsbf16 c o b)

theorem inb_land : ∀ (b : Fin 4) (o : Fin 3), ∀ a, (![b.val, o.val, 0, 0] : Fin 4 → Nat) a + S1x1x32x512.size a ≤ S4x3x32x512.size a := by decide
theorem land_words : ∀ (b : Fin 4) (o : Fin 3), (Rect.unit (s := S4x3x32x512) ![b.val, o.val, 0, 0] S1x1x32x512.size (inb_land b o)).WholeWords (EltTy.packing .bf16) := by decide
/-- The rectangle of landing slot `(b, o)`. -/
abbrev landR (b : Fin 4) (o : Fin 3) : Rect S4x3x32x512 := Rect.unit (s := S4x3x32x512) ![b.val, o.val, 0, 0] S1x1x32x512.size (inb_land b o)
/-- Landing slot `(b, o)`: where block `b` from the device `o + 1` places before arrives. -/
def landV (b : Fin 4) (o : Fin 3) : Memref sig .tc .vmem S32x512 .bf16 :=
  (lM.slice (landR b o) (fun _ => rfl)).squeeze S32x512 squeezes_S1x1x32x512_S32x512
theorem landV_exact (b : Fin 4) (o : Fin 3) : (landV b o).view.WordExact :=
  ((Memref.isWhole_whole cc0_scratch1).wordExact_slice rfl _ (land_words b o)).reshape _ _

/-- The 32 result rows device `c` computes as its block `b`. -/
def outV (c : Dev nD) (b : Fin 4) : Memref sig .tc .vmem S32x512 .bf16 :=
  oM.slice (Rect.unit (s := S512x512) (k0_off4 c (BitVec.ofNat 32 (32 * b.val))) S32x512.size (k0_off4_inb c b)) (fun _ => rfl)
theorem outV_exact (c : Dev nD) (b : Fin 4) : (outV c b).view.WordExact :=
  (Memref.isWhole_whole cc0_stg3_0).wordExact_slice rfl _ (k0_off4_wordsbf16 c b)

abbrev xR (c : Dev nD) (b : Fin 4) : Rect S1x512x512 := Rect.unit (s := S1x512x512) (k0_off2 c (BitVec.ofNat 32 (32 * b.val))) S1x32x512.size (k0_off2_inb c b)
abbrev rowR (c : Dev nD) (b : Fin 4) : Rect S512x512 := Rect.unit (s := S512x512) (k0_off3 c (BitVec.ofNat 32 (32 * b.val))) S32x512.size (k0_off3_inb c b)
abbrev xAll : Rect S1x512x512 := Rect.unit (s := S1x512x512) ![0, 0, 0] S1x512x512.size inb_S1x512x512_S1x512x512_0_0_0
abbrev sAll : Rect S512x512 := Rect.unit (s := S512x512) ![0, 0] S512x512.size inb_S512x512_S512x512_0_0
abbrev gAll : Rect S512 := Rect.unit (s := S512) ![0] S512.size inb_S512_S512_0

/-- What a block's arithmetic makes of the rows it loads: its own rows `p`, the residual rows `r`, the three landed
    blocks in the order of their waits (offset indices 0, 2, 1), and the scale `g`. -/
def blockVal (p : Vec F S1x32x512 .bf16) (r : Vec F S32x512 .bf16) (l0 l2 l1 : Vec F S1x1x32x512 .bf16) (g : Vec F S512 .bf16) : FVec F S32x512 .bf16 :=
  k0_pay6 (k0_pay5 p r l0) l2 l1 g

/-! ## The statements -/

abbrev TP (F : FTy → Type) (α : Type) := Prog (TpuEff nD τ sig (Elt F) Λ₀ .tc) α

def stSignal (n : Dev nD) : TP F PUnit := semSignalWord n barS 1#32
def stBarWait : TP F PUnit := semWaitWord barS 3#32
def stSendRS (c n : Dev nD) (b : Fin 4) (o : Fin 3) : TP F PUnit :=
  Prog.lift (.enqueueDma (srcV c b o) (.remote (Dev.tc n) (landV b o) (.dma (semAt cc0_scratch2 b o))) (.dma (semAt cc0_scratch3 b o))
    (srcV_exact c b o) (landV_exact b o) ⟨⟨rfl, Or.inl rfl⟩, trivial⟩)
def stWaitRS (c : Dev nD) (b : Fin 4) (o : Fin 3) : TP F PUnit :=
  Prog.lift (.waitDma2 (semAt cc0_scratch3 b o) (srcV c b o) (landV b o) (srcV_exact c b o) (landV_exact b o))
def stWaitSentRS (c : Dev nD) (b : Fin 4) (o : Fin 3) : TP F PUnit :=
  Prog.lift (.waitDma2 (semAt cc0_scratch2 b o) (landV b o) (srcV c b o) (landV_exact b o) (srcV_exact c b o))
def stSendAG (c n : Dev nD) (b : Fin 4) (o : Fin 3) : TP F PUnit :=
  Prog.lift (.enqueueDma (outV c b) (.remote (Dev.tc n) (outV c b) (.dma (semAt cc0_scratch4 b o))) (.dma (semAt cc0_scratch5 b o))
    (outV_exact c b) (outV_exact c b) ⟨⟨rfl, Or.inl rfl⟩, trivial⟩)
def stWaitAG (c : Dev nD) (b : Fin 4) (o : Fin 3) : TP F PUnit :=
  Prog.lift (.waitDma2 (semAt cc0_scratch5 b o) (outV c b) (outV c b) (outV_exact c b) (outV_exact c b))
def stWaitSentAG (c : Dev nD) (b : Fin 4) (o : Fin 3) : TP F PUnit :=
  Prog.lift (.waitDma2 (semAt cc0_scratch4 b o) (outV c b) (outV c b) (outV_exact c b) (outV_exact c b))

def stLoadX (c : Dev nD) (b : Fin 4) : TP F (Vec F S1x32x512 .bf16) := Prog.lift (.load xM (xR c b).toLoadRect (View.loadsAt_vmem h_S1x32x512))
def stLoadR (c : Dev nD) (b : Fin 4) : TP F (Vec F S32x512 .bf16) := Prog.lift (.load rM (rowR c b).toLoadRect (View.loadsAt_vmem h_S32x512))
def stLoadL (b : Fin 4) (o : Fin 3) : TP F (Vec F S1x1x32x512 .bf16) := Prog.lift (.load lM (landR b o).toLoadRect (View.loadsAt_vmem h_S1x1x32x512))
def stLoadG : TP F (Vec F S512 .bf16) := Prog.lift (.load gM gAll.toLoadRect (View.loadsAt_vmem h_S512))
def stLoadO (c : Dev nD) (b : Fin 4) : TP F (Vec F S32x512 .bf16) := Prog.lift (.load oM (rowR c b).toLoadRect (View.loadsAt_vmem h_S32x512))
def stStoreO (c : Dev nD) (b : Fin 4) (v : FVec F S32x512 .bf16) : TP F PUnit :=
  Prog.lift (.store oM (rowR c b) v Finset.univ
    (View.stores_vmem h_S32x512 ((Memref.isWhole_whole cc0_stg3_0).storeExact_slice rfl _ (k0_off3_packedbf16 c b)) (fun _ => rfl)) (.inl rfl))
def stLoadXAll : TP F (Vec F S1x512x512 .bf16) := Prog.lift (.load xM xAll.toLoadRect (View.loadsAt_vmem h_S1x512x512))
def stLoadSAll : TP F (Vec F S512x512 .bf16) := Prog.lift (.load sM sAll.toLoadRect (View.loadsAt_vmem h_S512x512))
def stStoreSAll (v : FVec F S512x512 .bf16) : TP F PUnit :=
  Prog.lift (.store sM sAll v Finset.univ
    (View.stores_vmem h_S512x512 ((Memref.isWhole_whole cc0_scratch0).storeExact_slice rfl _ packedbf16_S512x512_S512x512_0_0) (fun _ => rfl)) (.inl rfl))

/-! ## The loops -/

/-- The three signals, the copy into the send buffer and the barrier wait. -/
def phEnter (c : Dev nD) : TP F PUnit := do
  stSignal (tgt c 0); stSignal (tgt c 1); stSignal (tgt c 2)
  let v ← stLoadXAll
  let _ ← stLoadSAll
  stStoreSAll (k0_pay1 v)
  stBarWait

/-- One block's three scattering transfers. -/
def phScatter (c : Dev nD) (b : Fin 4) : TP F PUnit := do
  stSendRS c (tgt c 1) b 1; stSendRS c (tgt c 0) b 0; stSendRS c (tgt c 2) b 2

/-- One block's reduction: its own rows, then the three landed blocks as they arrive, the normalisation, the store. -/
def phReduce (c : Dev nD) (b : Fin 4) : TP F PUnit := do
  let p ← stLoadX c b
  let r ← stLoadR c b
  stWaitRS c b 0
  let l0 ← stLoadL b 0
  stWaitRS c b 2
  let l2 ← stLoadL b 2
  stWaitRS c b 1
  let l1 ← stLoadL b 1
  let g ← stLoadG
  let _ ← stLoadO c b
  stStoreO c b (blockVal p r l0 l2 l1 g)

/-- One block's three gathering transfers. -/
def phGather (c : Dev nD) (b : Fin 4) : TP F PUnit := do
  stSendAG c (tgt c 1) b 1; stSendAG c (tgt c 0) b 0; stSendAG c (tgt c 2) b 2

/-- The waits for one block's rows of the three other devices. -/
def phArrive (c : Dev nD) (b : Fin 4) : TP F PUnit := do
  stWaitAG c b 0; stWaitAG c b 2; stWaitAG c b 1

/-- The waits for one block's six own transfers. -/
def phDrain (c : Dev nD) (b : Fin 4) : TP F PUnit := do
  stWaitSentRS c b 1; stWaitSentAG c b 1; stWaitSentRS c b 0; stWaitSentAG c b 0; stWaitSentRS c b 2; stWaitSentAG c b 2

/-- The body of device `c`. -/
def bodyOf (c : Dev nD) : TP F PUnit := do
  phEnter c
  phScatter c 0; phScatter c 1; phScatter c 2; phScatter c 3
  phReduce c 0; phGather c 0
  phReduce c 1; phGather c 1
  phReduce c 2; phGather c 2
  phReduce c 3; phGather c 3
  phArrive c 0; phArrive c 1; phArrive c 2; phArrive c 3
  phDrain c 0; phDrain c 1; phDrain c 2; phDrain c 3

def bodyProg : TP F PUnit := do
  let c ← Prog.lift .deviceId
  bodyOf c

set_option maxRecDepth 100000 in
set_option maxHeartbeats 4000000 in
/-- The printed body is the regrouped one. -/
theorem body_eq : cc0_body (F := F) xM (Memref.isWhole_whole _) rM (Memref.isWhole_whole _) gM (Memref.isWhole_whole _) oM (Memref.isWhole_whole _)
    sM (Memref.isWhole_whole _) lM (Memref.isWhole_whole _) cc0_scratch2 cc0_scratch3 cc0_scratch4 cc0_scratch5 = bodyProg (F := F) := rfl

end Cert.Run

end
-- ==== Proof.Cells.lean ====
/-
The mesh, the semaphore cells, what each buffer holds and the rounds schedule.

Every device has one barrier cell and 48 transfer cells: for each kind (scatter sent, scatter landed, gather sent, gather
landed), block `b` and offset index `o`. Each cell is used for one round. A barrier cell's round has three duties, one per
other device, each handing over the pieces the waiting device will write there; a transfer cell's round has one duty, which
hands over the landed piece (receiving side) or gives the source piece back (sending side).
-/
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.Ring.Trips
public import Idealize.ShloMosaic.Lib.ValueIdxCore
public import Idealize.ShloMosaic.Lib.Tactic

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## The mesh -/

set_option backward.proofsInPublic true in
/-- The offset index that leads back: `o + 1` places forward and `rev o + 1` places forward make a full turn. -/
def rev (o : Fin 3) : Fin 3 := ⟨2 - o.val, by have := o.2; omega⟩
/-- The device that sends to `c` along offset index `o`. -/
def org (c : Dev nD) (o : Fin 3) : Dev nD := tgt c (rev o)

theorem rev_rev (o : Fin 3) : rev (rev o) = o := by revert o; decide
theorem tgt_val (c : Dev nD) (o : Fin 3) : (tgt c o).val = (c.val + o.val + 1) % 4 := by revert c o; decide
theorem tgt_org (c : Dev nD) (o : Fin 3) : tgt (org c o) o = c := by revert c o; decide
theorem org_tgt (c : Dev nD) (o : Fin 3) : org (tgt c o) o = c := by revert c o; decide
theorem tgt_rev (c : Dev nD) (o : Fin 3) : tgt (tgt c o) (rev o) = c := by revert c o; decide
theorem tgt_inj (c : Dev nD) : Function.Injective (tgt c) := by revert c; decide
theorem tgt_ne (c : Dev nD) (o : Fin 3) : tgt c o ≠ c := by revert c o; decide
theorem univ_dev (c : Dev nD) : (Finset.univ : Finset (Dev nD)) = insert c (Finset.univ.map ⟨tgt c, tgt_inj c⟩) := by
  revert c; decide

/-! ## The cells -/

/-- A transfer cell's index: kind, block, offset index. The kinds are 0 scatter sent, 1 scatter landed, 2 gather sent,
    3 gather landed. -/
abbrev Kx : Type := Fin 4 × Fin 4 × Fin 3
/-- A cell's index: the barrier's, or a transfer's. -/
abbrev Ck : Type := Unit ⊕ Kx

/-- The semaphore array of a kind. -/
def arrK : Fin 4 → DmaSems sig S4x3 := fun | 0 => cc0_scratch2 | 1 => cc0_scratch3 | 2 => cc0_scratch4 | 3 => cc0_scratch5
abbrev xsem (k b : Fin 4) (o : Fin 3) : DmaSem sig := semAt (arrK k) b o
abbrev osem (x : Kx) : SemLoc sig := .dma (xsem x.1 x.2.1 x.2.2)
abbrev csem : Ck → SemLoc sig := fun | .inl _ => .reg barS | .inr x => osem x

abbrev kcell (c : Dev nD) (x : Ck) : GSem nD τ sig := ((c : Thread nD τ), csem x)
abbrev barCell (c : Dev nD) : GSem nD τ sig := ((c : Thread nD τ), .reg barS)
abbrev xcell (c : Dev nD) (k b : Fin 4) (o : Fin 3) : GSem nD τ sig := ((c : Thread nD τ), .dma (xsem k b o))

set_option maxRecDepth 20000 in
theorem xsem_val : ∀ x : Kx, (xsem x.1 x.2.1 x.2.2).val = 4 + 12 * x.1.val + 3 * x.2.1.val + x.2.2.val := by decide
set_option maxRecDepth 20000 in
/-- The transfer semaphores are the launch's own: scoped, distinct, none a staging semaphore. -/
theorem ownSemFacts : Pipeline.OwnSemFacts cfg0.spec osem := by decide +kernel

theorem csem_inj : Function.Injective csem := by
  rintro (⟨⟩ | x) (⟨⟩ | y) h
  · rfl
  · cases h
  · cases h
  · exact congrArg Sum.inr (ownSemFacts.inj h)

theorem kcell_eq_iff {c d : Dev nD} {x y : Ck} : kcell c x = kcell d y ↔ c = d ∧ x = y :=
  ⟨fun h => ⟨congrArg (fun g : GSem nD τ sig => g.1.1) h, csem_inj (congrArg Prod.snd h)⟩, fun h => by rw [h.1, h.2]⟩

/-- Which of the cells a semaphore is, if one. -/
def dec : SemLoc sig → Option Ck := Function.partialInv csem
theorem dec_csem (x : Ck) : dec (csem x) = some x := Function.partialInv_left csem_inj x
theorem dec_bar : dec (.reg barS) = some (.inl ()) := dec_csem (.inl ())
theorem dec_x (k b : Fin 4) (o : Fin 3) : dec (.dma (xsem k b o)) = some (.inr (k, b, o)) := dec_csem (.inr (k, b, o))
/-- A staging semaphore is none of them. -/
theorem dec_stage (q : DmaSem sig) (h : q.val < 4) : dec (.dma q) = none := by
  unfold dec Function.partialInv
  rw [dif_neg]
  rintro ⟨(⟨⟩ | x), hx⟩
  · cases hx
  · have := xsem_val x
    have hq : xsem x.1 x.2.1 x.2.2 = q := by injection hx
    rw [hq] at this; omega

/-! ## The amount of one transfer -/

/-- What one block's transfer credits, at either end. -/
def N : ℕ := (landV 0 0).view.dmaCredit
theorem N_pos : 0 < N := View.dmaCredit_pos _ (by decide)
theorem amt_land (b : Fin 4) (o : Fin 3) : (landV b o).view.dmaCredit = N := rfl
theorem amt_src (c : Dev nD) (b : Fin 4) (o : Fin 3) : (srcV c b o).view.dmaCredit = N := rfl
theorem amt_out (c : Dev nD) (b : Fin 4) : (outV c b).view.dmaCredit = N := rfl

/-! ## The resource algebra: the pipeline library's copy (duties `Unit`) and the mesh's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- What the three input staging buffers of device `c` hold. -/
def xstg (c : Dev nD) : (cc0_stg0_0 : Ref sig .tc).ty.Contents (Elt F) :=
  (win0_0.blk (0 : Fin 1)).view.read (Elt F) (m ((c : Thread nD τ).loc main_arg0))
def rstg (c : Dev nD) : (cc0_stg1_0 : Ref sig .tc).ty.Contents (Elt F) :=
  (win0_1.blk (0 : Fin 1)).view.read (Elt F) (m ((c : Thread nD τ).loc main_arg1))
def gstg (c : Dev nD) : (cc0_stg2_0 : Ref sig .tc).ty.Contents (Elt F) :=
  (win0_2.blk (0 : Fin 1)).view.read (Elt F) (m ((c : Thread nD τ).loc main_arg2))

/-- What device `c`'s send buffer holds once filled: its partial sums. -/
def sbuf (c : Dev nD) : (cc0_scratch0 : Ref sig .tc).ty.Contents (Elt F) := k0_pay1 (xstg m c)
/-- The rows device `c` sends as block `b` along offset index `o`. -/
def sentV (c : Dev nD) (b : Fin 4) (o : Fin 3) : S32x512.Idx → Elt F .bf16 := (srcV c b o).view.read (Elt F) (sbuf m c)
/-- A landed block as the kernel loads it, with two leading axes of length one. -/
def unsq (w : S32x512.Idx → Elt F .bf16) : Vec F S1x1x32x512 .bf16 := shapeCast S1x1x32x512 w
/-- The landed block `b` along offset index `o` as device `c` loads it. -/
def landedV (c : Dev nD) (b : Fin 4) (o : Fin 3) : Vec F S1x1x32x512 .bf16 := unsq (sentV m (org c o) b o)
/-- The result rows device `t` computes as its block `b`. -/
def blkV (t : Dev nD) (b : Fin 4) : FVec F S32x512 .bf16 :=
  blockVal (xM.view.readAt (Elt F) (xR t b).toLoadRect (xstg m t)) (rM.view.readAt (Elt F) (rowR t b).toLoadRect (rstg m t))
    (landedV m t b 0) (landedV m t b 2) (landedV m t b 1) (gM.view.readAt (Elt F) gAll.toLoadRect (gstg m t))

set_option backward.proofsInPublic true in
/-- The device, the block and the position in the block of a result element. -/
def devOf (i : S512x512.Idx) : Dev nD := ⟨(i 0).val / 128, by have := idx2_lt0 i; show _ < 4; omega⟩
set_option backward.proofsInPublic true in
def blkOf (i : S512x512.Idx) : Fin 4 := ⟨(i 0).val % 128 / 32, by omega⟩
set_option backward.proofsInPublic true in
def posOf (i : S512x512.Idx) : S32x512.Idx := ix2 ⟨(i 0).val % 32, by omega⟩ ⟨(i 1).val, idx2_lt1 i⟩

/-- The whole result, the same on every device: each block as the device it belongs to computes it. -/
def outBuf : (cc0_stg3_0 : Ref sig .tc).ty.Contents (Elt F) := fun (i : S512x512.Idx) => blkV m (devOf i) (blkOf i) (posOf i)

/-! ## The pieces -/

/-- The 32 rows of device `c`'s send buffer that go to `tgt c o` as block `b`. -/
def srcPts (c : Dev nD) (b : Fin 4) (o : Fin 3) : sProp 𝕄 := (srcV c b o).view.loc (c : Thread nD τ) ↦[(srcV c b o).view.set]{fullShare} (sbuf m c)
/-- Landing slot `(b, o)` of device `c` at contents `f`. -/
def landPts (c : Dev nD) (b : Fin 4) (o : Fin 3) (f : (cc0_scratch1 : Ref sig .tc).ty.Contents (Elt F)) : sProp 𝕄 :=
  (landV b o).view.loc (c : Thread nD τ) ↦[(landV b o).view.set]{fullShare} f
/-- Landing slot `(b, o)` of device `c` at the rows it is sent. -/
def landedPts (c : Dev nD) (b : Fin 4) (o : Fin 3) : sProp 𝕄 :=
  iprop(∃ f : (cc0_scratch1 : Ref sig .tc).ty.Contents (Elt F), ⌜(landV b o).view.read (Elt F) f = sentV m (org c o) b o⌝ ∗ landPts c b o f)
/-- Block `b` of device `t`'s rows in device `c`'s result buffer, at share `q`. -/
def outPts (c t : Dev nD) (b : Fin 4) (q : PosShare TreeShare) (f : (cc0_stg3_0 : Ref sig .tc).ty.Contents (Elt F)) : sProp 𝕄 :=
  (outV t b).view.loc (c : Thread nD τ) ↦[(outV t b).view.set]{q} f

omit [FloatOps F] in
theorem pts_storable (ℓ : Loc nD τ sig) (I : Finset (Idx ℓ)) (q : PosShare TreeShare) (f : Buf (Elt F) ℓ) :
    BI.Storable (upEmb : UEmb _ 𝕄) (ℓ ↦[I]{q} f) := inferInstance
instance srcPts_storable (c : Dev nD) (b o) : BI.Storable (upEmb : UEmb _ 𝕄) (srcPts (F := F) m c b o) := pts_storable _ _ _ _
omit [FloatOps F] in
instance landPts_storable (c : Dev nD) (b o f) : BI.Storable (upEmb : UEmb _ 𝕄) (landPts (F := F) c b o f) := pts_storable _ _ _ _
instance landedPts_storable (c : Dev nD) (b o) : BI.Storable (upEmb : UEmb _ 𝕄) (landedPts m c b o) := by unfold landedPts; infer_instance
omit [FloatOps F] in
instance outPts_storable (c t : Dev nD) (b q f) : BI.Storable (upEmb : UEmb _ 𝕄) (outPts (F := F) c t b q f) := pts_storable _ _ _ _

/-- The share of a result block lent to its transfer along offset index `o`: the three make up the full share. -/
def third (o : Fin 3) : PosShare TreeShare := Ring.shares3 fullShare o

/-! ## The schedule -/

/-- What the device `tgt c j` hands `c` with its barrier signal: the pieces `c` will write there. -/
def barPay (c : Dev nD) (j : Fin 3) : sProp 𝕄 :=
  bigSep Finset.univ fun b : Fin 4 => iprop((∃ f, landPts (F := F) (tgt c j) b j f) ∗ ∃ f, outPts (F := F) (tgt c j) c b fullShare f)
/-- What a transfer cell's round hands its device. -/
def xPay (c : Dev nD) : Kx → sProp 𝕄
  | (0, b, o) => srcPts m c b o
  | (1, b, o) => landedPts m c b o
  | (2, b, o) => outPts c c b (third o) (outBuf m)
  | (3, b, o) => outPts c (org c o) b fullShare (outBuf m)
def cellPay (c : Dev nD) (d : Fin 3) : Ck → sProp 𝕄
  | .inl _ => barPay c d
  | .inr x => xPay m c x
def cellDuties : Ck → Finset (Fin 3)
  | .inl _ => Finset.univ
  | .inr _ => {0}
def cellAmt : Ck → ℕ
  | .inl _ => 1
  | .inr _ => N

omit [FloatOps F] in
instance barPay_storable (c : Dev nD) (j) : BI.Storable (upEmb : UEmb _ 𝕄) (barPay (F := F) c j) := by unfold barPay; infer_instance
instance xPay_storable (c : Dev nD) (x) : BI.Storable (upEmb : UEmb _ 𝕄) (xPay m c x) := by
  obtain ⟨k, b, o⟩ := x
  fin_cases k
  · show BI.Storable upEmb (srcPts m c b o); infer_instance
  · show BI.Storable upEmb (landedPts m c b o); infer_instance
  · show BI.Storable upEmb (outPts c c b (third o) (outBuf m)); infer_instance
  · show BI.Storable upEmb (outPts c (org c o) b fullShare (outBuf m)); infer_instance
instance cellPay_storable (c : Dev nD) (d x) : BI.Storable (upEmb : UEmb _ 𝕄) (cellPay m c d x) := by
  rcases x with _ | x
  · exact barPay_storable c d
  · exact xPay_storable m c x

/-- One round, round 0, for every cell. -/
def rd : Rounds.Schedule (GSem nD τ sig) (Fin 3) 𝕄 where
  duties g r := if r = 0 ∧ g.1.2 = .tc then (dec g.2).elim ∅ cellDuties else ∅
  unitless _ := False
  amount g _ _ := (dec g.2).elim 1 cellAmt
  payload g _ d := (dec g.2).elim iprop(emp) (cellPay m g.1.1 d)
  amount_pos g _ _ _ := by
    rcases dec g.2 with _ | _ | x
    · exact Nat.one_pos
    · exact Nat.one_pos
    · exact N_pos

instance rd_payload_storable (g : GSem nD τ sig) (r : ℕ) (d : Fin 3) : BI.Storable (upEmb : UEmb _ 𝕄) ((rd m).payload g r d) := by
  show BI.Storable upEmb ((dec g.2).elim iprop(emp) (cellPay m g.1.1 d))
  rcases dec g.2 with _ | x
  · show BI.Storable upEmb iprop(emp); infer_instance
  · exact cellPay_storable m g.1.1 d x

theorem duties_cell (c : Dev nD) (x : Ck) : (rd m).duties (kcell c x) 0 = cellDuties x := by
  dsimp only [rd]; rw [if_pos ⟨rfl, rfl⟩, dec_csem]; rfl
theorem duties_later (g : GSem nD τ sig) : ∀ r, 1 ≤ r → (rd m).duties g r = ∅ :=
  fun r hr => by dsimp only [rd]; rw [if_neg fun h => by omega]
theorem amount_cell (c : Dev nD) (x : Ck) (d : Fin 3) : (rd m).amount (kcell c x) 0 d = cellAmt x := by
  dsimp only [rd]; rw [dec_csem]; rfl
theorem payload_cell (c : Dev nD) (x : Ck) (d : Fin 3) : (rd m).payload (kcell c x) 0 d = cellPay m c d x := by
  dsimp only [rd]; rw [dec_csem]; rfl

theorem expect_bar (c : Dev nD) : (rd m).expect (barCell c) 0 = 3 := by
  unfold Schedule.expect Schedule.amountOf
  rw [show barCell c = kcell c (.inl ()) from rfl, duties_cell, Finset.sum_congr rfl fun d _ => amount_cell m c (.inl ()) d]; rfl
theorem expect_x (c : Dev nD) (k b : Fin 4) (o : Fin 3) : (rd m).expect (xcell c k b o) 0 = N := by
  unfold Schedule.expect Schedule.amountOf
  rw [show xcell c k b o = kcell c (.inr (k, b, o)) from rfl, duties_cell]
  show ∑ d ∈ ({0} : Finset (Fin 3)), _ = _
  rw [Finset.sum_singleton, amount_cell]; rfl

/-- The barrier round hands over all three devices' pieces, -/
theorem rest_bar (c : Dev nD) : bigSep ((rd m).duties (barCell c) 0 \ ∅) (fun d => (rd m).payload (barCell c) 0 d)
    = bigSep Finset.univ fun d => barPay (F := F) c d := by
  rw [Finset.sdiff_empty, show barCell c = kcell c (.inl ()) from rfl, duties_cell]
  exact bigSep_congr fun d _ => payload_cell m c (.inl ()) d
/-- a transfer's round its one payload. -/
theorem rest_x (c : Dev nD) (k b : Fin 4) (o : Fin 3) :
    bigSep ((rd m).duties (xcell c k b o) 0 \ ∅) (fun d => (rd m).payload (xcell c k b o) 0 d) = xPay m c (k, b, o) := by
  rw [Finset.sdiff_empty, show xcell c k b o = kcell c (.inr (k, b, o)) from rfl, duties_cell]
  show bigSep ({0} : Finset (Fin 3)) _ = _
  rw [bigSep_singleton, payload_cell]; rfl

end Cert.Run

end
-- ==== Proof.Pieces.lean ====
/-
The pieces of the buffers as sets of elements, what they hold, and how a whole buffer is the separating conjunction of its
pieces: the send and result buffers are sixteen row blocks of 32 rows (four per device), the landing buffer twelve slots.
-/
module

public import proofs.«01_k».proof.Proof.Cells
public import Idealize.ShloMosaic.Lib.Pipeline.Value
public import Idealize.ShloMosaic.Lib.Ring.Trips
public import Idealize.ShloMosaic.Lib.Ring.WriteBehind

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ UU ℕ

/-! ## Element sets -/

/-- The 32 rows that are block `b` of device `t`. -/
def rows (t : Dev nD) (b : Fin 4) : Finset S512x512.Idx := Finset.univ.filter fun i => devOf i = t ∧ blkOf i = b
/-- Landing slot `(b, o)`. -/
def slot (b : Fin 4) (o : Fin 3) : Finset S4x3x32x512.Idx := Finset.univ.filter fun i => (i 0).val = b.val ∧ (i 1).val = o.val

theorem mem_rows (t : Dev nD) (b : Fin 4) (i : S512x512.Idx) :
    i ∈ rows t b ↔ 128 * t.val + 32 * b.val ≤ (i 0).val ∧ (i 0).val < 128 * t.val + 32 * b.val + 32 := by
  have ht : t.val < 4 := t.2
  have hb := b.2
  have hi : (i 0).val < 512 := idx2_lt0 i
  unfold rows devOf blkOf
  rw [Finset.mem_filter]
  simp only [Finset.mem_univ, true_and, Fin.ext_iff]
  omega

theorem off1_eq : ∀ (c : Dev nD) (o : Fin 3) (b : Fin 4),
    k0_off1 c (BitVec.ofNat 32 (1 + o.val)) (BitVec.ofNat 32 (32 * b.val)) = ![128 * (tgt c o).val + 32 * b.val, 0] := by decide +kernel

/-- A unit rectangle of 32 whole rows, as a set. -/
theorem rect32_set (t : Dev nD) (b : Fin 4) (off : Fin 2 → ℕ) (h : off = ![128 * t.val + 32 * b.val, 0]) (inb) :
    (Rect.unit (s := S512x512) off S32x512.size inb).set = rows t b := by
  subst h
  refine Finset.ext fun i => ?_
  rw [mem_rows, Rect.mem_set_unit, Fin.forall_fin_two]
  have h1 : (i 1).val < 512 := idx2_lt1 i
  show (_ ≤ (i 0).val ∧ (i 0).val < _ + 32) ∧ (0 ≤ (i 1).val ∧ (i 1).val < 0 + 512) ↔ _
  constructor
  · exact fun h => h.1
  · exact fun h => ⟨h, by omega⟩

theorem outV_set (t : Dev nD) (b : Fin 4) : (outV t b).view.set = rows t b :=
  (View.set_slice_whole _ _).trans (rect32_set t b _ (k0_off4_eq t b) _)
theorem srcV_set (c : Dev nD) (b : Fin 4) (o : Fin 3) : (srcV c b o).view.set = rows (tgt c o) b :=
  (View.set_slice_whole _ _).trans (rect32_set _ b _ (off1_eq c o b) _)
theorem rowR_set (t : Dev nD) (b : Fin 4) : (oM.access (rowR t b)).set = rows t b :=
  (View.set_slice_whole _ _).trans (rect32_set t b _ (k0_off3_eq t b) _)

theorem landR_set (b : Fin 4) (o : Fin 3) : (landR b o).set = slot b o := by
  refine Finset.ext fun i => ?_
  have h2 : (i 2).val < 32 := (i 2).2
  have h3 : (i 3).val < 512 := (i 3).2
  unfold slot
  rw [Rect.mem_set_unit, Finset.mem_filter, Fin.forall_fin_succ, Fin.forall_fin_succ, Fin.forall_fin_two]
  show ((b.val ≤ (i 0).val ∧ (i 0).val < b.val + 1) ∧ (o.val ≤ (i 1).val ∧ (i 1).val < o.val + 1)
    ∧ (0 ≤ (i 2).val ∧ (i 2).val < 0 + 32) ∧ (0 ≤ (i 3).val ∧ (i 3).val < 0 + 512)) ↔ _
  simp only [Finset.mem_univ, true_and]
  omega
theorem landV_set (b : Fin 4) (o : Fin 3) : (landV b o).view.set = slot b o := by
  refine (View.set_reshape _ _).trans ((View.set_slice_whole _ _).trans (landR_set b o))
theorem landA_set (b : Fin 4) (o : Fin 3) : (lM.access (landR b o)).set = slot b o :=
  (View.set_slice_whole _ _).trans (landR_set b o)

theorem rows_disjoint {p q : Dev nD × Fin 4} (h : p ≠ q) : Disjoint (rows p.1 p.2) (rows q.1 q.2) :=
  Finset.disjoint_left.mpr fun i hp hq => h (Prod.ext
    ((Finset.mem_filter.mp hp).2.1.symm.trans (Finset.mem_filter.mp hq).2.1)
    ((Finset.mem_filter.mp hp).2.2.symm.trans (Finset.mem_filter.mp hq).2.2))
theorem rows_cover : (Finset.univ : Finset (Dev nD × Fin 4)).biUnion (fun p => rows p.1 p.2) = Finset.univ :=
  Finset.eq_univ_iff_forall.mpr fun i => Finset.mem_biUnion.mpr ⟨(devOf i, blkOf i), Finset.mem_univ _, Finset.mem_filter.mpr ⟨Finset.mem_univ _, rfl, rfl⟩⟩
theorem slot_disjoint {p q : Fin 4 × Fin 3} (h : p ≠ q) : Disjoint (slot p.1 p.2) (slot q.1 q.2) :=
  Finset.disjoint_left.mpr fun i hp hq => h (Prod.ext
    (Fin.ext ((Finset.mem_filter.mp hp).2.1.symm.trans (Finset.mem_filter.mp hq).2.1))
    (Fin.ext ((Finset.mem_filter.mp hp).2.2.symm.trans (Finset.mem_filter.mp hq).2.2)))
theorem slot_cover : (Finset.univ : Finset (Fin 4 × Fin 3)).biUnion (fun p => slot p.1 p.2) = Finset.univ :=
  Finset.eq_univ_iff_forall.mpr fun i => Finset.mem_biUnion.mpr ⟨(⟨(i 0).val, (i 0).2⟩, ⟨(i 1).val, (i 1).2⟩), Finset.mem_univ _,
    Finset.mem_filter.mpr ⟨Finset.mem_univ _, rfl, rfl⟩⟩

/-! ## What the pieces hold -/

variable (m : (ℓ : Loc nD τ sig) → Buf (Elt F) ℓ)

/-- Two contents a view reads alike agree on the view's elements. -/
theorem eq_of_read {sp s e} (v : Memref sig .tc sp s e) (f g : v.view.ty.Contents (Elt F)) (h : v.view.read (Elt F) f = v.view.read (Elt F) g) :
    ∀ i ∈ v.view.set, f i = g i := by
  intro i hi
  obtain ⟨x, -, rfl⟩ := Finset.mem_map.mp hi
  have := congrFun h x
  rw [View.read_apply, View.read_apply] at this
  exact (cast_bijective _).1 this

set_option backward.proofsInPublic true in
/-- Row `r` of block `b` of device `t`, as an element of the result. -/
def rowIdx (t : Dev nD) (b : Fin 4) (x : S32x512.Idx) : S512x512.Idx :=
  ix2 ⟨128 * t.val + 32 * b.val + (x 0).val, by have ht : t.val < 4 := t.2; have hb := b.2; have := idx2_lt0 x; omega⟩ ⟨(x 1).val, idx2_lt1 x⟩
theorem emb_out (t : Dev nD) (b : Fin 4) (x : S32x512.Idx) : (outV t b).view.emb x = rowIdx t b x := by
  refine funext fun a => Fin.ext ?_
  show (k0_off4 t (BitVec.ofNat 32 (32 * b.val))) a + 1 * (x a).val = _
  rw [k0_off4_eq]
  fin_cases a
  · show 128 * t.val + 32 * b.val + 1 * (x 0).val = 128 * t.val + 32 * b.val + (x 0).val; omega
  · show 0 + 1 * (x 1).val = (x 1).val; omega
theorem devOf_row (t : Dev nD) (b : Fin 4) (x : S32x512.Idx) : devOf (rowIdx t b x) = t := by
  have hb := b.2
  have h0 : (x 0).val < 32 := idx2_lt0 x
  exact Fin.ext (show (128 * t.val + 32 * b.val + (x 0).val) / 128 = t.val by omega)
theorem blkOf_row (t : Dev nD) (b : Fin 4) (x : S32x512.Idx) : blkOf (rowIdx t b x) = b := by
  have hb := b.2
  have h0 : (x 0).val < 32 := idx2_lt0 x
  exact Fin.ext (show (128 * t.val + 32 * b.val + (x 0).val) % 128 / 32 = b.val by omega)
theorem posOf_row (t : Dev nD) (b : Fin 4) (x : S32x512.Idx) : posOf (rowIdx t b x) = x := by
  have h0 : (x 0).val < 32 := idx2_lt0 x
  refine funext fun a => Fin.ext ?_
  fin_cases a
  · show (128 * t.val + 32 * b.val + (x 0).val) % 32 = (x 0).val; omega
  · rfl

/-- The result buffer's block, read through the view that sends it. -/
theorem read_out (t : Dev nD) (b : Fin 4) : (outV t b).view.read (Elt F) (outBuf m) = blkV m t b := by
  funext x
  show outBuf m ((outV t b).view.emb x) = _
  rw [emb_out]
  show blkV m (devOf (rowIdx t b x)) (blkOf (rowIdx t b x)) (posOf (rowIdx t b x)) = _
  rw [devOf_row, blkOf_row, posOf_row]

/-- Storing a block's value leaves the result buffer's contents on the block's rows. -/
theorem store_out (t : Dev nD) (b : Fin 4) (f : (cc0_stg3_0 : Ref sig .tc).ty.Contents (Elt F)) :
    ∀ i ∈ rows t b, (oM.access (rowR t b)).write (Elt F) f (blkV m t b) Finset.univ i = outBuf m i := by
  rw [← outV_set]
  exact eq_of_read (outV t b) _ _ ((View.read_write_univ (v := (outV t b).view) f (blkV m t b)).trans (read_out m t b).symm)

/-- A landed block as the kernel loads it. -/
theorem load_landed (c : Dev nD) (b : Fin 4) (o : Fin 3) (f : (cc0_scratch1 : Ref sig .tc).ty.Contents (Elt F))
    (h : (landV b o).view.read (Elt F) f = sentV m (org c o) b o) :
    lM.view.readAt (Elt F) (landR b o).toLoadRect f = landedV m c b o := by
  unfold landedV unsq
  rw [← h]
  exact (shapeCast_shapeCast (s := S1x1x32x512) (t := S32x512) (lM.view.readAt (Elt F) (landR b o).toLoadRect f) _ _).symm

/-! ## Whole buffers and their pieces -/

omit [FloatOps F] in
theorem mono_univ {I : Type} [Fintype I] {Φ Ψ : I → sProp 𝕄} (h : ∀ i, Φ i ⊢ Ψ i) : bigSep Finset.univ Φ ⊢ bigSep Finset.univ Ψ :=
  bigSep_mono fun i _ => h i

omit [FloatOps F] in
/-- What every device has is what `c` has and what the three others have. -/
theorem bigSep_dev (c : Dev nD) (Φ : Dev nD → sProp 𝕄) : bigSep Finset.univ Φ = iprop(Φ c ∗ bigSep Finset.univ fun o => Φ (tgt c o)) := by
  rw [univ_dev c, bigSep_insert (by rw [Finset.mem_map]; rintro ⟨o, -, h⟩; exact tgt_ne c o h), bigSep_map]; rfl

/-- `rev` as a permutation of the offset indices. -/
def revE : Fin 3 ≃ Fin 3 := ⟨rev, rev, rev_rev, rev_rev⟩

omit [FloatOps F] in
/-- A 512 by 512 buffer is the blocks of `c` and those of the three others. -/
theorem split_rows (c : Dev nD) (ℓ : Loc nD τ sig) (e : Finset S512x512.Idx → Finset (Idx ℓ))
    (hd : ∀ p q : Dev nD × Fin 4, p ≠ q → Disjoint (e (rows p.1 p.2)) (e (rows q.1 q.2)))
    (hc : (Finset.univ : Finset (Dev nD × Fin 4)).biUnion (fun p => e (rows p.1 p.2)) = Finset.univ) (f : Buf (Elt F) ℓ) :
    (ℓ ↦{fullShare} f : sProp 𝕄)
      = iprop((bigSep Finset.univ fun b => ℓ ↦[e (rows c b)]{fullShare} f) ∗ bigSep Finset.univ fun o => bigSep Finset.univ fun b => ℓ ↦[e (rows (tgt c o) b)]{fullShare} f) := by
  rw [Ring.pointsTo_blocks (fun p : Dev nD × Fin 4 => e (rows p.1 p.2)) hd hc f, bigSep_univ_prod, bigSep_dev c]

/-- Block `b` of device `c`'s own rows of its send buffer, which is not sent. -/
def keptPts (c : Dev nD) (b : Fin 4) : sProp 𝕄 := (c : Thread nD τ).loc cc0_scratch0 ↦[rows c b]{fullShare} (sbuf m c)

/-- The filled send buffer is the blocks it keeps and the blocks it sends. -/
theorem sbuf_split (c : Dev nD) :
    ((c : Thread nD τ).loc cc0_scratch0 ↦{fullShare} (sbuf m c) : sProp 𝕄)
      = iprop((bigSep Finset.univ fun b => keptPts m c b) ∗ bigSep Finset.univ fun b => bigSep Finset.univ fun o => srcPts m c b o) := by
  refine (split_rows c ((c : Thread nD τ).loc cc0_scratch0) (fun I => I) (fun _ _ h => rows_disjoint h) rows_cover (sbuf m c)).trans ?_
  rw [bigSep_univ_comm]
  refine congrArg₂ _ rfl (bigSep_congr fun b _ => bigSep_congr fun o _ => ?_)
  unfold srcPts; rw [srcV_set]; rfl

omit [FloatOps F] in
/-- The result buffer is the blocks the device computes itself and those the others send it. -/
theorem out_split (c : Dev nD) (f : (cc0_stg3_0 : Ref sig .tc).ty.Contents (Elt F)) :
    ((c : Thread nD τ).loc cc0_stg3_0 ↦{fullShare} f : sProp 𝕄)
      = iprop((bigSep Finset.univ fun b => outPts c c b fullShare f) ∗ bigSep Finset.univ fun o => bigSep Finset.univ fun b => outPts c (tgt c o) b fullShare f) := by
  refine (split_rows c ((c : Thread nD τ).loc cc0_stg3_0) (fun I => I) (fun _ _ h => rows_disjoint h) rows_cover f).trans ?_
  refine congrArg₂ _ (bigSep_congr fun b _ => ?_) (bigSep_congr fun o _ => bigSep_congr fun b _ => ?_)
  · unfold outPts; rw [outV_set]; rfl
  · unfold outPts; rw [outV_set]; rfl

omit [FloatOps F] in
theorem landPts_eq (c : Dev nD) (p : Fin 4 × Fin 3) (f : (cc0_scratch1 : Ref sig .tc).ty.Contents (Elt F)) :
    (landPts c p.1 p.2 f : sProp 𝕄) = ((c : Thread nD τ).loc cc0_scratch1 ↦[slot p.1 p.2]{fullShare} f) := by
  unfold landPts; rw [landV_set]; rfl
omit [FloatOps F] in
/-- The landing buffer at anything is its twelve slots at anything, -/
theorem land_split (c : Dev nD) :
    iprop(∃ f, (c : Thread nD τ).loc cc0_scratch1 ↦{fullShare} f)
      ⊢ (bigSep Finset.univ fun b => bigSep Finset.univ fun o => iprop(∃ f, landPts c b o f) : sProp 𝕄) := by
  refine (Ring.pieces_split (ℓ := (c : Thread nD τ).loc cc0_scratch1) (fun p : Fin 4 × Fin 3 => slot p.1 p.2) (fun _ _ h => slot_disjoint h) slot_cover
    (fun p f => landPts c p.1 p.2 f) (landPts_eq c)).trans ?_
  rw [bigSep_univ_prod]
omit [FloatOps F] in
/-- and back. -/
theorem land_join (c : Dev nD) (f₀ : (cc0_scratch1 : Ref sig .tc).ty.Contents (Elt F)) :
    (bigSep Finset.univ fun b => bigSep Finset.univ fun o => iprop(∃ f, landPts c b o f) : sProp 𝕄)
      ⊢ iprop(∃ f, (c : Thread nD τ).loc cc0_scratch1 ↦{fullShare} f) := by
  refine BIBase.Entails.trans ?_ (Ring.pieces_join (ℓ := (c : Thread nD τ).loc cc0_scratch1) (fun p : Fin 4 × Fin 3 => slot p.1 p.2) (fun _ _ h => slot_disjoint h) slot_cover
    (fun p f => landPts c p.1 p.2 f) (landPts_eq c) f₀)
  rw [bigSep_univ_prod]

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem thirds (ℓ : Loc nD τ sig) (I : Finset (Idx ℓ)) (f : Buf (Elt F) ℓ) :
    (ℓ ↦[I]{fullShare} f : sProp 𝕄) ⊣⊢ bigSep Finset.univ fun o => ℓ ↦[I]{third o} f := by
  rw [bigSep_fin3]; unfold third; exact Ring.pointsTo_thirds fullShare f
omit [FloatOps F] in
/-- A computed block whole is its three lent shares. -/
theorem out_thirds (c t : Dev nD) (b : Fin 4) (f : (cc0_stg3_0 : Ref sig .tc).ty.Contents (Elt F)) :
    (outPts c t b fullShare f : sProp 𝕄) ⊣⊢ bigSep Finset.univ fun o => outPts c t b (third o) f :=
  thirds ((outV t b).view.loc (c : Thread nD τ)) (outV t b).view.set f

/-- What `c` hands over with its barrier signal to `tgt c i`: the landing slots that device sends into and its rows of the
    result buffer. -/
def handPay (c : Dev nD) (i : Fin 3) : sProp 𝕄 :=
  bigSep Finset.univ fun b : Fin 4 => iprop((∃ f, landPts (F := F) c b (rev i) f) ∗ ∃ f, outPts (F := F) c (tgt c i) b fullShare f)
omit [FloatOps F] in
theorem barPay_tgt (c : Dev nD) (i : Fin 3) : (barPay (tgt c i) (rev i) : sProp 𝕄) = handPay c i := by
  unfold barPay handPay; rw [tgt_rev]

omit [FloatOps F] in
/-- The landing buffer and the result buffer are what goes with the three signals and the device's own result rows. -/
theorem hand_split (c : Dev nD) (f : (cc0_stg3_0 : Ref sig .tc).ty.Contents (Elt F)) :
    iprop((∃ f, (c : Thread nD τ).loc cc0_scratch1 ↦{fullShare} f) ∗ (c : Thread nD τ).loc cc0_stg3_0 ↦{fullShare} f)
      ⊢ (iprop((bigSep Finset.univ fun i => handPay c i) ∗ bigSep Finset.univ fun b => outPts c c b fullShare f) : sProp 𝕄) := by
  unfold handPay
  rw [out_split c f]
  iintro ⟨Hl, Ho, Hr⟩
  ihave Hl' := (land_split c) $$ Hl
  ihave Hl'' := (Entails.of_eq ((bigSep_univ_comm _).trans (bigSep_univ_equiv revE _))) $$ Hl'
  isplitl [Hl'' Hr]
  · iapply (Entails.of_eq ((bigSep_congr fun i _ => bigSep_sep' Finset.univ _ _).trans (bigSep_sep' Finset.univ _ _)).symm)
    isplitl [Hl'']; · iexact Hl''
    iapply (mono_univ fun o => mono_univ fun b => show outPts c (tgt c o) b fullShare f ⊢ iprop(∃ f, outPts c (tgt c o) b fullShare f) from by
      iintro H; iexists f; iexact H)
    iexact Hr
  · iexact Ho

end Cert.Run

end
-- ==== Proof.Owed.lean ====
/-
What each device owes the others at each point of its program, the levels that order the waits, and the credit the launch
hands each device for the signals and transfers it is owed.
-/
module

public import proofs.«01_k».proof.Proof.Cells
import Mathlib.Tactic.Abel

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
/-- What is owed, per semaphore. -/
abbrev OT : Type := CellTallies nD τ sig Unit

/-- The credit one transfer of kind `k` owes its receiver. -/
def owe (k : Fin 4) (c : Dev nD) (b : Fin 4) (o : Fin 3) : OT := tallyAt (xcell (tgt c o) k b o) () N
/-- The unit one barrier signal owes. -/
def oweBar (c : Dev nD) (i : Fin 3) : OT := tallyAt (barCell (tgt c i)) () 1

/-- A block's three transfers owed on top of `O`, in the order the program issues them (offset index 1, then 0, then 2). -/
def addK (k : Fin 4) (c : Dev nD) (b : Fin 4) (O : OT) : OT := O + owe k c b 2 + owe k c b 0 + owe k c b 1
/-- What is owed before the gather transfers of the blocks `bs`, -/
def owedA (c : Dev nD) (bs : List (Fin 4)) : OT := bs.foldr (addK 3 c) 0
/-- before the scatter transfers of the blocks `bs`, -/
def owedR (c : Dev nD) (bs : List (Fin 4)) : OT := bs.foldr (addK 1 c) (owedA c [0, 1, 2, 3])
/-- and at launch. -/
def O₀ (c : Dev nD) : OT := owedR c [0, 1, 2, 3] + oweBar c 2 + oweBar c 1 + oweBar c 0

/-! ## Levels -/

/-- Barrier cells at 1, scatter landed at 2, gather landed at 3, the others at 0. -/
def cellLv : Option Ck → ℕ
  | none => 0
  | some (.inl _) => 1
  | some (.inr (1, _, _)) => 2
  | some (.inr (3, _, _)) => 3
  | some (.inr _) => 0
def L (g : GSem nD τ sig) : Finset Unit := if g.1.2 = .tc then {()} else ∅
def lv (g : GSem nD τ sig) (_ : Unit) : ℕ := cellLv (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : Ck) : lv (kcell c x) () = cellLv (some x) := by unfold lv; rw [dec_csem]

/-- Everything owed is owed to a cell above level `n`. -/
def Above (n : ℕ) (O : OT) : Prop := ∀ g u, 0 < O g u → g.1.2 = .tc ∧ n < lv g u

theorem above_zero (n : ℕ) : Above n 0 := fun g u h => absurd h (Nat.lt_irrefl 0)
theorem above_add {n : ℕ} {O P : OT} (hO : Above n O) (hP : Above n P) : Above n (O + P) := fun g u h => by
  rw [Pi.add_apply, Finsupp.add_apply] at h
  rcases Nat.eq_zero_or_pos (O g u) with h0 | h0
  · exact hP g u (by omega)
  · exact hO g u h0
theorem above_cell {n k : ℕ} (c : Dev nD) (x : Ck) (h : n < cellLv (some x)) : Above n (tallyAt (kcell c x) () k) := fun g u hg => by
  rw [tallyAt_apply] at hg
  by_cases hc : g = kcell c x ∧ u = ()
  · rw [hc.1]; exact ⟨rfl, (lv_cell c x).symm ▸ h⟩
  · rw [if_neg hc] at hg; exact absurd hg (Nat.lt_irrefl 0)
theorem above_addK {n : ℕ} {O : OT} (k : Fin 4) (c : Dev nD) (b : Fin 4) (h : ∀ o : Fin 3, n < cellLv (some (.inr (k, b, o)))) (hO : Above n O) :
    Above n (addK k c b O) :=
  above_add (above_add (above_add hO (above_cell _ (.inr (k, b, 2)) (h 2))) (above_cell _ (.inr (k, b, 0)) (h 0))) (above_cell _ (.inr (k, b, 1)) (h 1))
/-- Before gather transfers only gather cells are owed, above the scatter cells; -/
theorem above_owedA (c : Dev nD) (bs : List (Fin 4)) : Above 2 (owedA c bs) := by
  induction bs with
  | nil => exact above_zero 2
  | cons b bs ih => exact above_addK 3 c b (fun o => by show 2 < 3; omega) ih
theorem above_le {n n' : ℕ} (h : n' ≤ n) {O : OT} (hO : Above n O) : Above n' O := fun g u hg => ⟨(hO g u hg).1, lt_of_le_of_lt h (hO g u hg).2⟩
/-- before scatter transfers only transfer cells, above the barrier cells; -/
theorem above_owedR (c : Dev nD) (bs : List (Fin 4)) : Above 1 (owedR c bs) := by
  induction bs with
  | nil => exact above_le (by omega) (above_owedA c _)
  | cons b bs ih => exact above_addK 1 c b (fun o => by show 1 < 2; omega) ih
/-- at launch only cells of the schedule, above the staging semaphores. -/
theorem above_O₀ (c : Dev nD) : Above 0 (O₀ c) :=
  above_add (above_add (above_add (above_le (by omega) (above_owedR c _)) (above_cell _ (.inl ()) Nat.one_pos)) (above_cell _ (.inl ()) Nat.one_pos))
    (above_cell _ (.inl ()) Nat.one_pos)

omit [FloatOps F] in
/-- A device may wait on a semaphore below everything it owes. -/
theorem mayWait (c : Dev nD) (sm : SemLoc sig) (n : ℕ) (O : OT) (hO : Above n O) (h : lv ((c : Thread nD τ), sm) () ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact h)
    (fun g u hg => (hO g u hg).2)

/-! ## The launch credit -/

theorem O₀_eq (c : Dev nD) : O₀ c = (∑ i, oweBar c i) + (∑ b, ∑ o, owe 1 c b o) + ∑ b, ∑ o, owe 3 c b o := by
  unfold O₀ owedR owedA
  simp only [List.foldr_cons, List.foldr_nil, addK, Fin.sum_univ_three, Fin.sum_univ_four]
  abel

theorem owe_at (k k' : Fin 4) (c d : Dev nD) (b b' : Fin 4) (o o' : Fin 3) :
    owe k d b' o' (xcell c k' b o) () = if tgt d o' = c ∧ k = k' ∧ b' = b ∧ o' = o then N else 0 := by
  unfold owe
  rw [tallyAt_apply]
  refine if_congr ?_ rfl rfl
  rw [show xcell c k' b o = kcell c (.inr (k', b, o)) from rfl, show xcell (tgt d o') k b' o' = kcell (tgt d o') (.inr (k, b', o')) from rfl,
    kcell_eq_iff, Sum.inr.injEq, Prod.mk.injEq, Prod.mk.injEq]
  constructor
  · rintro ⟨⟨h1, h2, h3, h4⟩, -⟩; exact ⟨h1.symm, h2.symm, h3.symm, h4.symm⟩
  · rintro ⟨h1, h2, h3, h4⟩; exact ⟨⟨h1.symm, h2.symm, h3.symm, h4.symm⟩, rfl⟩
theorem owe_bar (k : Fin 4) (c d : Dev nD) (b' : Fin 4) (o' : Fin 3) : owe k d b' o' (barCell c) () = 0 := by
  unfold owe
  rw [tallyAt_apply, if_neg]
  rintro ⟨h, -⟩
  have := (kcell_eq_iff (x := .inl ()) (y := .inr (k, b', o'))).mp h
  cases this.2
theorem oweBar_at (c d : Dev nD) (i : Fin 3) : oweBar d i (barCell c) () = if tgt d i = c then 1 else 0 := by
  unfold oweBar
  rw [tallyAt_apply]
  refine if_congr ?_ rfl rfl
  rw [show barCell c = kcell c (.inl ()) from rfl, show barCell (tgt d i) = kcell (tgt d i) (.inl ()) from rfl, kcell_eq_iff]
  exact ⟨fun h => h.1.1.symm, fun h => ⟨⟨h.symm, rfl⟩, rfl⟩⟩
theorem oweBar_x (c d : Dev nD) (i : Fin 3) (k b : Fin 4) (o : Fin 3) : oweBar d i (xcell c k b o) () = 0 := by
  unfold oweBar
  rw [tallyAt_apply, if_neg]
  rintro ⟨h, -⟩
  have := (kcell_eq_iff (x := .inr (k, b, o)) (y := .inl ())).mp h
  cases this.2

theorem sum_at {I : Type} [Fintype I] (O : I → OT) (g : GSem nD τ sig) : (∑ i, O i) g () = ∑ i, O i g () := by
  rw [Finset.sum_apply, Finsupp.finset_sum_apply]

theorem bar_count : ∀ c : Dev nD, (∑ d : Dev nD, ∑ i : Fin 3, if tgt d i = c then 1 else 0) = 3 := by decide

/-- The other three devices owe each barrier cell three units between them, -/
theorem total_bar (c : Dev nD) : (∑ d, O₀ d (barCell c) ()) = 3 := by
  rw [← bar_count c]
  refine Finset.sum_congr rfl fun d _ => ?_
  rw [O₀_eq, Pi.add_apply, Finsupp.add_apply, Pi.add_apply, Finsupp.add_apply]
  simp only [sum_at, oweBar_at, owe_bar, Finset.sum_const_zero, Nat.add_zero]

theorem total_kind (k : Fin 4) (c : Dev nD) (b : Fin 4) (o : Fin 3) : (∑ d, ∑ b', ∑ o', owe k d b' o' (xcell c k b o) ()) = N := by
  simp only [owe_at]
  rw [Finset.sum_eq_single (org c o), Finset.sum_eq_single b, Finset.sum_eq_single o]
  · exact if_pos ⟨tgt_org c o, trivial, rfl, rfl⟩
  · exact fun o' _ h => if_neg fun h' => h h'.2.2.2
  · exact fun h => absurd (Finset.mem_univ _) h
  · exact fun b' _ h => Finset.sum_eq_zero fun o' _ => if_neg fun h' => h h'.2.2.1
  · exact fun h => absurd (Finset.mem_univ _) h
  · exact fun d _ h => Finset.sum_eq_zero fun b' _ => Finset.sum_eq_zero fun o' _ => if_neg fun h' => h (by rw [← h'.1, h'.2.2.2, org_tgt])
  · exact fun h => absurd (Finset.mem_univ _) h
theorem total_other (k k' : Fin 4) (h : k ≠ k') (c d : Dev nD) (b : Fin 4) (o : Fin 3) : (∑ b', ∑ o', owe k d b' o' (xcell c k' b o) ()) = 0 :=
  Finset.sum_eq_zero fun b' _ => Finset.sum_eq_zero fun o' _ => (owe_at k k' c d b b' o o').trans (if_neg fun h' => h h'.2.1)

theorem O₀_at (c d : Dev nD) (k b : Fin 4) (o : Fin 3) :
    O₀ d (xcell c k b o) () = (∑ b', ∑ o', owe 1 d b' o' (xcell c k b o) ()) + ∑ b', ∑ o', owe 3 d b' o' (xcell c k b o) () := by
  rw [O₀_eq, Pi.add_apply, Finsupp.add_apply, Pi.add_apply, Finsupp.add_apply]
  simp only [sum_at, oweBar_x, Finset.sum_const_zero, Nat.zero_add]
/-- and each landing cell one transfer's credit. -/
theorem total_x (k : Fin 4) (hk : k = 1 ∨ k = 3) (c : Dev nD) (b : Fin 4) (o : Fin 3) : (∑ d, O₀ d (xcell c k b o) ()) = N := by
  simp only [O₀_at]
  rw [Finset.sum_add_distrib]
  rcases hk with rfl | rfl
  · rw [total_kind, Finset.sum_eq_zero fun d _ => total_other 3 1 (by decide) c d b o, Nat.add_zero]
  · rw [total_kind, Finset.sum_eq_zero fun d _ => total_other 1 3 (by decide) c d b o, Nat.zero_add]

theorem launch_at (g : GSem nD τ sig) (n : ℕ) (h : (∑ d, O₀ d g ()) = n) :
    tallyOn g (launchCredit (Pipeline.owing O₀) 0 g) = (tallyAt g () n : OT) := by
  unfold tallyAt; refine congrArg _ (Finsupp.ext fun u => ?_); cases u
  rw [Pipeline.launchCredit_owing, Finsupp.single_eq_same, h]

/-- The credit device `c` starts with: its barrier's three units, and each landing cell's transfer. -/
def credits (c : Dev nD) : sProp 𝕄 :=
  iprop(cred (tallyAt (barCell c) () 3) ∗ (bigSep Finset.univ fun b : Fin 4 => bigSep Finset.univ fun o : Fin 3 => cred (tallyAt (xcell c 1 b o) () N))
    ∗ bigSep Finset.univ fun b : Fin 4 => bigSep Finset.univ fun o : Fin 3 => cred (tallyAt (xcell c 3 b o) () N))

/-- The semaphores a device is owed on, listed. -/
def owedSem : Unit ⊕ ((Fin 4 × Fin 3) ⊕ (Fin 4 × Fin 3)) → Ck
  | .inl _ => .inl ()
  | .inr (.inl p) => .inr (1, p.1, p.2)
  | .inr (.inr p) => .inr (3, p.1, p.2)
theorem owedSem_inj : Function.Injective owedSem := by decide
omit [FloatOps F] in
theorem creds (c : Dev nD) : (Pipeline.launchCred O₀ c : sProp 𝕄) ⊢ credits c := by
  unfold Pipeline.launchCred
  refine BIBase.Entails.trans (bigSep_subset (Finset.subset_univ (Finset.univ.map ⟨fun y => csem (owedSem y), fun a b h => owedSem_inj (csem_inj h)⟩))) ?_
  rw [bigSep_map, bigSep_univ_sum, bigSep_univ_sum, bigSep_univ_prod, bigSep_univ_prod]
  unfold credits
  refine Entails.of_eq (congrArg₂ _ ?_ (congrArg₂ _ ?_ ?_))
  · rw [show (Finset.univ : Finset Unit) = {()} from rfl, bigSep_singleton]
    exact congrArg cred (launch_at (barCell c) 3 (total_bar c))
  · exact bigSep_congr fun b _ => bigSep_congr fun o _ => congrArg cred (launch_at (xcell c 1 b o) N (total_x 1 (.inl rfl) c b o))
  · exact bigSep_congr fun b _ => bigSep_congr fun o _ => congrArg cred (launch_at (xcell c 3 b o) N (total_x 3 (.inr rfl) c b o))

end Cert.Run

end
-- ==== Proof.Steps.lean ====
/-
Each statement of the program as one rule: what it needs, and what it leaves to the rest of the program.
-/
module

public import proofs.«01_k».proof.Proof.Pieces
public import proofs.«01_k».proof.Proof.Owed

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (K : Dev nD × Ck → ℕ)

abbrev 𝒱₀ : Variants := Variants.none

/-- The weakest precondition of a piece of device `c`'s program. -/
abbrev wpc {α : Type} (c : Dev nD) (p : TP F α) (Q : α → sProp 𝕄) : sProp 𝕄 := wp frame (wpE (defs₀ (F := F)) 𝒱₀ (c : Thread nD τ) none) Set.univ p Q

/-- What the launch has recorded for good: every cell's invariant, and that every cell has reached round 0. -/
def records : sProp 𝕄 :=
  iprop((bigSep Finset.univ fun p : Dev nD × Ck => cellInv ER (rd m) (K p) (kcell p.1 p.2))
    ∗ (bigSep Finset.univ fun p : Dev nD × Ck => reached ER (kcell p.1 p.2) 0) ∗ levAts L lv)
instance records_persistent : BI.Persistent (records m K) := by unfold records; infer_instance

theorem inv_at (p : Dev nD × Ck) : records m K ⊢ cellInv ER (rd m) (K p) (kcell p.1 p.2) := by
  unfold records
  iintro ⟨H, -, -⟩
  iapply (show (bigSep Finset.univ fun p : Dev nD × Ck => cellInv ER (rd m) (K p) (kcell p.1 p.2)) ⊢ (cellInv ER (rd m) (K p) (kcell p.1 p.2) : sProp 𝕄) from bigSep_elim (Finset.mem_univ p))
  iexact H
theorem reached_at (p : Dev nD × Ck) : records m K ⊢ reached ER (kcell p.1 p.2) 0 := by
  unfold records
  iintro ⟨-, H, -⟩
  iapply (show (bigSep Finset.univ fun p : Dev nD × Ck => (reached ER (kcell p.1 p.2) 0 : sProp 𝕄)) ⊢ reached ER (kcell p.1 p.2) 0 from bigSep_elim (Finset.mem_univ p))
  iexact H
theorem lev_at : records m K ⊢ levAts L lv := by
  unfold records
  iintro ⟨-, -, H⟩
  iexact H

/-- What device `c` owes, whatever it has already waited for. -/
def owesE (c : Dev nD) (O : OT) : sProp 𝕄 := iprop(∃ W, owes (c : Thread nD τ) O W)

/-- A barrier signal hands over what the signalled device will write on `c`. -/
theorem wp_signal (c : Dev nD) (i : Fin 3) (O : OT) (Q : PUnit → sProp 𝕄) :
    iprop(records m K ∗ owesE c (O + oweBar c i) ∗ dutyTok ER (barCell (tgt c i)) 0 (rev i) ∗ handPay c i)
      ⊢ iprop((owesE c O -∗ Q ⟨⟩) -∗ wpc c (stSignal (tgt c i)) Q) := by
  unfold stSignal owesE
  simp only [semSignalWord, Prog.lift, Prog.bind_op, Prog.bind_ret, Prog.pure_eq_ret]
  iintro ⟨#HR, ⟨%W, HO⟩, Ht, Hp⟩ Hk
  iapply (Rounds.wp_signal 𝒱₀ ER (rd m) (c : Thread nD τ) none (dst := (tgt c i : Thread nD τ)) (κ := K (tgt c i, .inl ()))
      (d := rev i) (by rw [show (((tgt c i : Dev nD) : Thread nD τ), SemLoc.reg barS) = kcell (tgt c i) (.inl ()) from rfl, duties_cell]; exact Finset.mem_univ _)
      ((amount_cell m (tgt c i) (.inl ()) (rev i)).trans (by decide)) () O rfl) $$ [HO Ht Hp]
  · isplitr; · iapply (inv_at m K (tgt c i, .inl ())); iexact HR
    isplitl [HO]; · iexact HO
    isplitl [Ht]; · iexact Ht
    isplitl [Hp]
    · iapply (Entails.of_eq ((payload_cell m (tgt c i) (.inl ()) (rev i)).trans (barPay_tgt c i)).symm); iexact Hp
    · iapply (reached_at m K (tgt c i, .inl ())); iexact HR
  iintro HO
  rw [wp_ret]; imodintro
  iapply Hk; iexists W; iexact HO

/-- The barrier wait brings the other devices' pieces. -/
theorem wp_barWait (c : Dev nD) (O : OT) (hO : Above 1 O) (Q : PUnit → sProp 𝕄) :
    iprop(records m K ∗ cred (tallyAt (barCell c) () 3) ∗ owesE c O ∗ atPos ER (barCell c) 0 ∅ 0)
      ⊢ iprop(((owesE c O ∗ atPos ER (barCell c) 1 ∅ 0 ∗ bigSep Finset.univ fun j => barPay c j) -∗ Q ⟨⟩) -∗ wpc c stBarWait Q) := by
  unfold stBarWait owesE
  simp only [semWaitWord, Prog.lift, Prog.bind_op, Prog.bind_ret, Prog.pure_eq_ret]
  iintro ⟨#HR, Hc, ⟨%W, HO⟩, Hat⟩ Hk
  iapply (Rounds.wp_wait_rest_token 𝒱₀ ER (rd m) (c : Thread nD τ) none (κ := K (c, .inl ()))
      (wpE_semWait_eq 𝒱₀ (c : Thread nD τ) none Set.univ) (Set.mem_univ _) () (O := O) (W := W) (R := 0) (m := 0) (T := ∅)
      (by rw [expect_bar]; decide)) $$ [Hc HO Hat]
  · isplitr; · iapply (inv_at m K (c, .inl ())); iexact HR
    isplitl [Hc]; · iexact Hc
    isplitl [HO]; · iexact HO
    isplitr
    · iapply (mayWait c (.reg barS) 1 O hO (le_of_eq (lv_cell c (.inl ())))); iapply (lev_at m K); iexact HR
    iexact Hat
  iintro ⟨HO, Hat, -, Hpay⟩
  rw [wp_ret]; imodintro
  iapply Hk
  isplitl [HO]; · iexists _; iexact HO
  isplitl [Hat]; · iexact Hat
  iapply (Entails.of_eq (rest_bar m c)); iexact Hpay

/-- A wait on a transfer cell, below everything owed, brings the cell's payload. -/
theorem wp_waitX (c : Dev nD) (k b : Fin 4) (o : Fin 3) (n : ℕ) (O : OT) (hO : Above n O) (hn : cellLv (some (.inr (k, b, o))) ≤ n)
    {sp sp' : Space} (src : Memref sig .tc sp S32x512 .bf16) (dst : Memref sig .tc sp' S32x512 .bf16) (h1 : src.view.WordExact) (h2 : dst.view.WordExact)
    (hN : dst.view.dmaCredit = N) (Q : PUnit → sProp 𝕄) :
    iprop(records m K ∗ cred (tallyAt (xcell c k b o) () N) ∗ owesE c O ∗ atPos ER (xcell c k b o) 0 ∅ 0)
      ⊢ iprop(((owesE c O ∗ atPos ER (xcell c k b o) 1 ∅ 0 ∗ xPay m c (k, b, o)) -∗ Q ⟨⟩)
        -∗ wpc c (Prog.lift (.waitDma2 (xsem k b o) src dst h1 h2)) Q) := by
  unfold owesE
  simp only [Prog.lift]
  iintro ⟨#HR, Hc, ⟨%W, HO⟩, Hat⟩ Hk
  iapply (Rounds.wp_wait_rest_token 𝒱₀ ER (rd m) (c : Thread nD τ) none (κ := K (c, .inr (k, b, o)))
      (wpE_waitDma2_eq 𝒱₀ (c : Thread nD τ) none Set.univ) (Set.mem_univ _) () (O := O) (W := W) (R := 0) (m := 0) (T := ∅)
      (by rw [Nat.zero_add, expect_x]; exact hN)) $$ [Hc HO Hat]
  · isplitr; · iapply (inv_at m K (c, .inr (k, b, o))); iexact HR
    isplitl [Hc]; · rw [hN]; iexact Hc
    isplitl [HO]; · iexact HO
    isplitr
    · iapply (mayWait c (.dma (xsem k b o)) n O hO (le_trans (le_of_eq (lv_cell c (.inr (k, b, o)))) hn)); iapply (lev_at m K); iexact HR
    iexact Hat
  iintro ⟨HO, Hat, -, Hpay⟩
  rw [wp_ret]; imodintro
  iapply Hk
  isplitl [HO]; · iexists _; iexact HO
  isplitl [Hat]; · iexact Hat
  iapply (Entails.of_eq (rest_x m c k b o)); iexact Hpay

theorem duty_x (c : Dev nD) (k b : Fin 4) (o : Fin 3) : (0 : Fin 3) ∈ (rd m).duties (xcell c k b o) 0 := by
  rw [show xcell c k b o = kcell c (.inr (k, b, o)) from rfl, duties_cell]; exact Finset.mem_singleton_self _
theorem amt_x (c : Dev nD) (k b : Fin 4) (o : Fin 3) : (rd m).amount (xcell c k b o) 0 0 = N := amount_cell m c (.inr (k, b, o)) 0
theorem pay_x (c : Dev nD) (k b : Fin 4) (o : Fin 3) : (rd m).payload (xcell c k b o) 0 0 = xPay m c (k, b, o) := payload_cell m c (.inr (k, b, o)) 0

end Cert.Run

end
-- ==== Proof.Sends.lean ====
/-
The two kinds of transfer as rules: what each needs, and what it leaves to the rest of the program.
-/
module

public import proofs.«01_k».proof.Proof.Steps

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (K : Dev nD × Ck → ℕ)

/-- The two sends with their semaphores as the schedule names them. -/
theorem stSendRS_eq (c n : Dev nD) (b : Fin 4) (o : Fin 3) : stSendRS (F := F) c n b o
    = Prog.lift (.enqueueDma (srcV c b o) (.remote (Dev.tc n) (landV b o) (.dma (xsem 0 b o))) (.dma (xsem 1 b o))
        (srcV_exact c b o) (landV_exact b o) ⟨⟨rfl, Or.inl rfl⟩, trivial⟩) := rfl
theorem stSendAG_eq (c n : Dev nD) (b : Fin 4) (o : Fin 3) : stSendAG (F := F) c n b o
    = Prog.lift (.enqueueDma (outV c b) (.remote (Dev.tc n) (outV c b) (.dma (xsem 2 b o))) (.dma (xsem 3 b o))
        (outV_exact c b) (outV_exact c b) ⟨⟨rfl, Or.inl rfl⟩, trivial⟩) := rfl

/-- What a scatter transfer writes is the payload of the cell it lands on, -/
theorem landed_pay (c : Dev nD) (b : Fin 4) (o : Fin 3) (f : (cc0_scratch1 : Ref sig .tc).ty.Contents (Elt F)) :
    (((landV b o).view.loc (tgt c o : Thread nD τ) ↦[(landV b o).view.set]{fullShare}
        ((landV b o).view.write (Elt F) f ((srcV c b o).view.read (Elt F) (sbuf m c)) Finset.univ) : sProp 𝕄))
      ⊢ (rd m).payload (xcell (tgt c o) 1 b o) 0 0 := by
  rw [pay_x]
  show _ ⊢ landedPts m (tgt c o) b o
  unfold landedPts landPts
  rw [org_tgt]
  iintro H; iexists ((landV b o).view.write (Elt F) f ((srcV c b o).view.read (Elt F) (sbuf m c)) Finset.univ); isplitr
  · ipureintro; exact View.read_write_univ _ _
  · iexact H
/-- and so is what a gather transfer writes. -/
theorem gathered_pay (c : Dev nD) (b : Fin 4) (o : Fin 3) (f : (cc0_stg3_0 : Ref sig .tc).ty.Contents (Elt F)) :
    (((outV c b).view.loc (tgt c o : Thread nD τ) ↦[(outV c b).view.set]{fullShare}
        ((outV c b).view.write (Elt F) f ((outV c b).view.read (Elt F) (outBuf m)) Finset.univ) : sProp 𝕄))
      ⊢ (rd m).payload (xcell (tgt c o) 3 b o) 0 0 := by
  rw [pay_x]
  show _ ⊢ outPts (tgt c o) (org (tgt c o) o) b fullShare (outBuf m)
  unfold outPts
  rw [org_tgt]
  exact Entails.of_eq (pointsTo_congr (eq_of_read (outV c b) _ _ (View.read_write_univ _ _)))

/-- A scatter transfer. -/
theorem wp_sendRS (c : Dev nD) (b : Fin 4) (o : Fin 3) (O : OT) (Q : PUnit → sProp 𝕄) :
    iprop(records m K ∗ owesE c (O + owe 1 c b o) ∗ srcPts m c b o ∗ (∃ f, landPts (tgt c o) b o f)
        ∗ dutyTok ER (xcell c 0 b o) 0 0 ∗ dutyTok ER (xcell (tgt c o) 1 b o) 0 0)
      ⊢ iprop(((owesE c O ∗ cred (tallyAt (xcell c 0 b o) () N)) -∗ Q ⟨⟩) -∗ wpc c (stSendRS c (tgt c o) b o) Q) := by
  rw [stSendRS_eq]
  unfold owesE
  simp only [Prog.lift]
  iintro ⟨#HR, ⟨%W, HO⟩, Hs, ⟨%f, Hd⟩, Ht, Ht'⟩ Hk
  unfold srcPts landPts
  iapply (Rounds.wp_send_pointsTo 𝒱₀ ER (rd m) (c : Thread nD τ) none (κ₁ := K (c, .inr (0, b, o))) (κ₂ := K (tgt c o, .inr (1, b, o)))
    (r₁ := 0) (r₂ := 0) (d₁ := 0) (d₂ := 0) (fd := f) (duty_x m c 0 b o) (duty_x m (tgt c o) 1 b o) () () N (amt_land b o) (amt_x m c 0 b o) (amt_x m (tgt c o) 1 b o) O rfl (W := W)
    (Entails.of_eq (pay_x m c 0 b o).symm) (by exact landed_pay m c b o f)) $$ [HO Hs Hd Ht Ht']
  · isplitr; · iapply (inv_at m K (c, .inr (0, b, o))); iexact HR
    isplitr; · iapply (inv_at m K (tgt c o, .inr (1, b, o))); iexact HR
    isplitl [Hs]; · iexact Hs
    isplitl [Hd]; · iexact Hd
    isplitl [HO]; · iexact HO
    isplitl [Ht]; · iexact Ht
    isplitr; · iapply (reached_at m K (c, .inr (0, b, o))); iexact HR
    isplitl [Ht']; · iexact Ht'
    iapply (reached_at m K (tgt c o, .inr (1, b, o))); iexact HR
  iintro ⟨Hc, HO⟩
  rw [wp_ret]; imodintro
  iapply Hk
  isplitl [HO]; · iexists W; iexact HO
  iexact Hc

/-- A gather transfer lends a third of the block it sends. -/
theorem wp_sendAG (c : Dev nD) (b : Fin 4) (o : Fin 3) (O : OT) (Q : PUnit → sProp 𝕄) :
    iprop(records m K ∗ owesE c (O + owe 3 c b o) ∗ outPts c c b (third o) (outBuf m) ∗ (∃ f, outPts (tgt c o) c b fullShare f)
        ∗ dutyTok ER (xcell c 2 b o) 0 0 ∗ dutyTok ER (xcell (tgt c o) 3 b o) 0 0)
      ⊢ iprop(((owesE c O ∗ cred (tallyAt (xcell c 2 b o) () N)) -∗ Q ⟨⟩) -∗ wpc c (stSendAG c (tgt c o) b o) Q) := by
  rw [stSendAG_eq]
  unfold owesE
  simp only [Prog.lift]
  iintro ⟨#HR, ⟨%W, HO⟩, Hs, ⟨%f, Hd⟩, Ht, Ht'⟩ Hk
  unfold outPts
  iapply (Rounds.wp_send_pointsTo 𝒱₀ ER (rd m) (c : Thread nD τ) none (κ₁ := K (c, .inr (2, b, o))) (κ₂ := K (tgt c o, .inr (3, b, o)))
    (r₁ := 0) (r₂ := 0) (d₁ := 0) (d₂ := 0) (fd := f) (duty_x m c 2 b o) (duty_x m (tgt c o) 3 b o) () () N (amt_out c b) (amt_x m c 2 b o) (amt_x m (tgt c o) 3 b o) O rfl (W := W)
    (Entails.of_eq (pay_x m c 2 b o).symm) (by exact gathered_pay m c b o f)) $$ [HO Hs Hd Ht Ht']
  · isplitr; · iapply (inv_at m K (c, .inr (2, b, o))); iexact HR
    isplitr; · iapply (inv_at m K (tgt c o, .inr (3, b, o))); iexact HR
    isplitl [Hs]; · iexact Hs
    isplitl [Hd]; · iexact Hd
    isplitl [HO]; · iexact HO
    isplitl [Ht]; · iexact Ht
    isplitr; · iapply (reached_at m K (c, .inr (2, b, o))); iexact HR
    isplitl [Ht']; · iexact Ht'
    iapply (reached_at m K (tgt c o, .inr (3, b, o))); iexact HR
  iintro ⟨Hc, HO⟩
  rw [wp_ret]; imodintro
  iapply Hk
  isplitl [HO]; · iexists W; iexact HO
  iexact Hc

end Cert.Run

end
-- ==== Proof.Phases.lean ====
/-
Each loop body of the program as one rule: entering, scattering, reducing, gathering, arriving and draining one block.
-/
module

public import proofs.«01_k».proof.Proof.Sends

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (K : Dev nD × Ck → ℕ)

/-! ## Loads and stores -/

/-- The three input staging buffers. -/
def ins (c : Dev nD) : sProp 𝕄 :=
  iprop(((c : Thread nD τ).loc cc0_stg0_0 ↦{fullShare} (xstg m c)) ∗ ((c : Thread nD τ).loc cc0_stg1_0 ↦{fullShare} (rstg m c))
    ∗ ((c : Thread nD τ).loc cc0_stg2_0 ↦{fullShare} (gstg m c)))

theorem wp_loadX (c : Dev nD) (b : Fin 4) (Q : _ → sProp 𝕄) :
    ins m c ⊢ iprop((ins m c -∗ Q (xM.view.readAt (Elt F) (xR c b).toLoadRect (xstg m c))) -∗ wpc c (stLoadX c b) Q) := by
  unfold stLoadX ins
  simp only [Prog.lift]
  iintro ⟨H, Hr⟩ Hk
  iapply (wp_load 𝒱₀ (c : Thread nD τ) none Set.univ (m := xM) (Finset.subset_univ _)) $$ H; iintro H
  rw [wp_ret]; imodintro
  iapply Hk; isplitl [H] <;> iassumption
theorem wp_loadR (c : Dev nD) (b : Fin 4) (Q : _ → sProp 𝕄) :
    ins m c ⊢ iprop((ins m c -∗ Q (rM.view.readAt (Elt F) (rowR c b).toLoadRect (rstg m c))) -∗ wpc c (stLoadR c b) Q) := by
  unfold stLoadR ins
  simp only [Prog.lift]
  iintro ⟨Hx, H, Hg⟩ Hk
  iapply (wp_load 𝒱₀ (c : Thread nD τ) none Set.univ (m := rM) (Finset.subset_univ _)) $$ H; iintro H
  rw [wp_ret]; imodintro
  iapply Hk; isplitl [Hx]; · iexact Hx
  isplitl [H] <;> iassumption
theorem wp_loadG (c : Dev nD) (Q : _ → sProp 𝕄) :
    ins m c ⊢ iprop((ins m c -∗ Q (gM.view.readAt (Elt F) gAll.toLoadRect (gstg m c))) -∗ wpc c stLoadG Q) := by
  unfold stLoadG ins
  simp only [Prog.lift]
  iintro ⟨Hx, Hr, H⟩ Hk
  iapply (wp_load 𝒱₀ (c : Thread nD τ) none Set.univ (m := gM) (Finset.subset_univ _)) $$ H; iintro H
  rw [wp_ret]; imodintro
  iapply Hk; isplitl [Hx]; · iexact Hx
  isplitl [Hr] <;> iassumption
omit [FloatOps F] in
theorem landPts_slot (c : Dev nD) (b : Fin 4) (o : Fin 3) (f : (cc0_scratch1 : Ref sig .tc).ty.Contents (Elt F)) :
    (landPts c b o f : sProp 𝕄) = (lM.view.loc (c : Thread nD τ) ↦[slot b o]{fullShare} f) := landPts_eq c (b, o) f
omit [FloatOps F] in
theorem outPts_rows (c t : Dev nD) (b : Fin 4) (q : PosShare TreeShare) (f : (cc0_stg3_0 : Ref sig .tc).ty.Contents (Elt F)) :
    (outPts c t b q f : sProp 𝕄) = (oM.view.loc (c : Thread nD τ) ↦[rows t b]{q} f) := by
  unfold outPts; rw [outV_set]; rfl
/-- A landed block is loaded as it was sent. -/
theorem wp_loadL (c : Dev nD) (b : Fin 4) (o : Fin 3) (Q : _ → sProp 𝕄) :
    landedPts m c b o ⊢ iprop((landedPts m c b o -∗ Q (landedV m c b o)) -∗ wpc c (stLoadL b o) Q) := by
  unfold stLoadL landedPts
  simp only [landPts_slot]
  simp only [Prog.lift]
  iintro ⟨%f, %hf, H⟩ Hk
  rw [← load_landed m c b o f hf]
  iapply (wp_load 𝒱₀ (c : Thread nD τ) none Set.univ (m := lM) (S := slot b o) (by have := landA_set b o; rw [View.set_slice] at this; exact this.subset)) $$ H; iintro H
  rw [wp_ret]; imodintro
  iapply Hk; iexists f; isplitr
  · ipureintro; exact hf
  · iexact H
/-- The result rows are loaded before they are stored; the loaded value is not used. -/
theorem wp_loadO (c : Dev nD) (b : Fin 4) (f : (cc0_stg3_0 : Ref sig .tc).ty.Contents (Elt F)) (Q : _ → sProp 𝕄) :
    outPts c c b fullShare f ⊢ iprop((∀ v, outPts c c b fullShare f -∗ Q v) -∗ wpc c (stLoadO c b) Q) := by
  unfold stLoadO
  rw [outPts_rows]
  simp only [Prog.lift]
  iintro H Hk
  iapply (wp_load_rect 𝒱₀ (c : Thread nD τ) none Set.univ (m := oM) (r := rowR c b) (S := rows c b) (by rw [rowR_set])) $$ H; iintro H
  rw [wp_ret]; imodintro
  iapply Hk; iexact H
/-- A block is stored, and the rows hold the result whenever the stored value agrees with it. -/
theorem wp_storeO' (c : Dev nD) (b : Fin 4) (f g : (cc0_stg3_0 : Ref sig .tc).ty.Contents (Elt F)) (w : FVec F S32x512 .bf16)
    (h : ∀ i ∈ rows c b, (oM.access (rowR c b)).write (Elt F) f w Finset.univ i = g i) (Q : PUnit → sProp 𝕄) :
    outPts c c b fullShare f ⊢ iprop((outPts c c b fullShare g -∗ Q ⟨⟩) -∗ wpc c (stStoreO c b w) Q) := by
  unfold stStoreO
  rw [outPts_rows, outPts_rows]
  have e : (oM.view.loc (c : Thread nD τ) ↦[rows c b]{fullShare} ((oM.access (rowR c b)).write (Elt F) f w Finset.univ) : sProp 𝕄)
      = (oM.view.loc (c : Thread nD τ) ↦[rows c b]{fullShare} g) := pointsTo_congr (ℓ := oM.view.loc (c : Thread nD τ)) h
  iintro H Hk
  iapply (wp_store 𝒱₀ (c : Thread nD τ) none Set.univ (m := oM) (r := rowR c b) (Mk := Finset.univ) (S := rows c b)
    (by rw [View.setOn_univ, rowR_set])) $$ H; iintro H
  rw [wp_ret]; imodintro
  iapply Hk
  iapply (Entails.of_eq e); iexact H
/-- The computed block is stored. -/
theorem wp_storeO (c : Dev nD) (b : Fin 4) (f : (cc0_stg3_0 : Ref sig .tc).ty.Contents (Elt F)) (Q : PUnit → sProp 𝕄) :
    outPts c c b fullShare f ⊢ iprop((outPts c c b fullShare (outBuf m) -∗ Q ⟨⟩) -∗ wpc c (stStoreO c b (blkV m c b)) Q) :=
  wp_storeO' c b f (outBuf m) (blkV m c b) (store_out m c b f) Q

theorem hz2 : (![0, 0] : Fin 2 → Nat) = fun _ => 0 := funext fun a => by fin_cases a <;> rfl
theorem hz3 : (![0, 0, 0] : Fin 3 → Nat) = fun _ => 0 := funext fun a => by fin_cases a <;> rfl

theorem read_xAll (c : Dev nD) : xM.view.readAt (Elt F) xAll.toLoadRect (xstg m c) = xstg m c :=
  Memref.readAt_unit_zero (Elt F) cc0_stg0_0 hz3 _ _
theorem write_sAll (f w : (cc0_scratch0 : Ref sig .tc).ty.Contents (Elt F)) : (sM.access sAll).write (Elt F) f w Finset.univ = w :=
  Memref.write_access_unit_zero_univ (Elt F) cc0_scratch0 hz2 _ f w
theorem pay_landed (c : Dev nD) (b : Fin 4) (o : Fin 3) : xPay m c (1, b, o) = landedPts m c b o := rfl

/-! ## The loops -/

/-- Entering: the three signals, the send buffer filled, the barrier passed. -/
theorem wp_enter (c : Dev nD) (Q : PUnit → sProp 𝕄) :
    iprop(records m K ∗ owesE c (O₀ c) ∗ (bigSep Finset.univ fun i => iprop(dutyTok ER (barCell (tgt c i)) 0 (rev i) ∗ handPay c i))
        ∗ ins m c ∗ (∃ f, (c : Thread nD τ).loc cc0_scratch0 ↦{fullShare} f) ∗ cred (tallyAt (barCell c) () 3) ∗ atPos ER (barCell c) 0 ∅ 0)
      ⊢ iprop(((owesE c (owedR c [0, 1, 2, 3]) ∗ ins m c ∗ ((c : Thread nD τ).loc cc0_scratch0 ↦{fullShare} (sbuf m c)) ∗ atPos ER (barCell c) 1 ∅ 0
          ∗ bigSep Finset.univ fun j => barPay c j) -∗ Q ⟨⟩) -∗ wpc c (phEnter c) Q) := by
  unfold phEnter
  rw [bigSep_fin3]
  simp only [wp_bind]
  iintro ⟨#HR, HO, ⟨⟨Ht0, Hp0⟩, ⟨Ht1, Hp1⟩, ⟨Ht2, Hp2⟩⟩, Hin, ⟨%f, Hs⟩, Hc, Hat⟩ Hk
  iapply (wp_signal m K c 0 (owedR c [0, 1, 2, 3] + oweBar c 2 + oweBar c 1)) $$ [HO Ht0 Hp0]
  · isplitr; · iexact HR
    isplitl [HO]; · iexact HO
    isplitl [Ht0] <;> iassumption
  iintro HO
  iapply (wp_signal m K c 1 (owedR c [0, 1, 2, 3] + oweBar c 2)) $$ [HO Ht1 Hp1]
  · isplitr; · iexact HR
    isplitl [HO]; · iexact HO
    isplitl [Ht1] <;> iassumption
  iintro HO
  iapply (wp_signal m K c 2 (owedR c [0, 1, 2, 3])) $$ [HO Ht2 Hp2]
  · isplitr; · iexact HR
    isplitl [HO]; · iexact HO
    isplitl [Ht2] <;> iassumption
  iintro HO
  unfold stLoadXAll stLoadSAll stStoreSAll ins
  simp only [Prog.lift]
  icases Hin with ⟨Hx, Hin⟩
  iapply (wp_load 𝒱₀ (c : Thread nD τ) none Set.univ (m := xM) (Finset.subset_univ _)) $$ Hx; iintro Hx
  rw [wp_ret, read_xAll]; imodintro
  iapply (wp_load 𝒱₀ (c : Thread nD τ) none Set.univ (m := sM) (Finset.subset_univ _)) $$ Hs; iintro Hs
  rw [wp_ret]; imodintro
  iapply (wp_store 𝒱₀ (c : Thread nD τ) none Set.univ (m := sM) (r := sAll) (Mk := Finset.univ) (Finset.subset_univ _)) $$ Hs; iintro Hs
  rw [wp_ret, write_sAll, show k0_pay1 (xstg m c) = sbuf m c from rfl]; imodintro
  iapply (wp_barWait m K c (owedR c [0, 1, 2, 3]) (above_owedR c _)) $$ [Hc HO Hat]
  · isplitr; · iexact HR
    isplitl [Hc]; · iexact Hc
    isplitl [HO] <;> iassumption
  iintro ⟨HO, Hat, Hpay⟩
  iapply Hk
  isplitl [HO]; · iexact HO
  isplitl [Hx Hin]
  · isplitl [Hx] <;> iassumption
  isplitl [Hs]; · iexact Hs
  isplitl [Hat] <;> iassumption

/-- What one block's scatter transfers need, -/
def scatPre (c : Dev nD) (b : Fin 4) : sProp 𝕄 :=
  bigSep Finset.univ fun o => iprop(srcPts m c b o ∗ (∃ f, landPts (tgt c o) b o f) ∗ dutyTok ER (xcell c 0 b o) 0 0 ∗ dutyTok ER (xcell (tgt c o) 1 b o) 0 0)
/-- one block's gather transfers, -/
def gathPre (c : Dev nD) (b : Fin 4) : sProp 𝕄 :=
  bigSep Finset.univ fun o => iprop((∃ f, outPts (tgt c o) c b fullShare f) ∗ dutyTok ER (xcell c 2 b o) 0 0 ∗ dutyTok ER (xcell (tgt c o) 3 b o) 0 0)
/-- and one block's three waits on cells of kind `k`; -/
def waitPre (c : Dev nD) (k b : Fin 4) : sProp 𝕄 :=
  bigSep Finset.univ fun o => iprop(cred (tallyAt (xcell c k b o) () N) ∗ atPos ER (xcell c k b o) 0 ∅ 0)
/-- the transfers leave the credit for the waits on their sending cells, -/
def sentCred (c : Dev nD) (k b : Fin 4) : sProp 𝕄 := bigSep Finset.univ fun o => cred (tallyAt (xcell c k b o) () N)
/-- the waits the cells' payloads, and the cells spent. -/
def waitPost (c : Dev nD) (k b : Fin 4) : sProp 𝕄 := bigSep Finset.univ fun o => iprop(atPos ER (xcell c k b o) 1 ∅ 0 ∗ xPay m c (k, b, o))

/-- Scattering one block. -/
theorem wp_scatter (c : Dev nD) (b : Fin 4) (O : OT) (Q : PUnit → sProp 𝕄) :
    iprop(records m K ∗ owesE c (addK 1 c b O) ∗ scatPre m c b) ⊢ iprop(((owesE c O ∗ sentCred c 0 b) -∗ Q ⟨⟩) -∗ wpc c (phScatter c b) Q) := by
  unfold phScatter scatPre sentCred addK
  rw [bigSep_fin3, bigSep_fin3]
  simp only [wp_bind]
  iintro ⟨#HR, HO, H0, H1, H2⟩ Hk
  iapply (wp_sendRS m K c b 1 (O + owe 1 c b 2 + owe 1 c b 0)) $$ [HO H1]
  · isplitr; · iexact HR
    isplitl [HO] <;> iassumption
  iintro ⟨HO, Hc1⟩
  iapply (wp_sendRS m K c b 0 (O + owe 1 c b 2)) $$ [HO H0]
  · isplitr; · iexact HR
    isplitl [HO] <;> iassumption
  iintro ⟨HO, Hc0⟩
  iapply (wp_sendRS m K c b 2 O) $$ [HO H2]
  · isplitr; · iexact HR
    isplitl [HO] <;> iassumption
  iintro ⟨HO, Hc2⟩
  iapply Hk
  isplitl [HO]; · iexact HO
  isplitl [Hc0]; · iexact Hc0
  isplitl [Hc1] <;> iassumption

/-- Gathering one block: each transfer takes a third of the block. -/
theorem wp_gather (c : Dev nD) (b : Fin 4) (O : OT) (Q : PUnit → sProp 𝕄) :
    iprop(records m K ∗ owesE c (addK 3 c b O) ∗ gathPre c b ∗ outPts c c b fullShare (outBuf m))
      ⊢ iprop(((owesE c O ∗ sentCred c 2 b) -∗ Q ⟨⟩) -∗ wpc c (phGather c b) Q) := by
  unfold phGather gathPre sentCred addK
  simp only [wp_bind]
  iintro ⟨#HR, HO, Hg, Ho⟩ Hk
  ihave Ho' := (out_thirds c c b (outBuf m)).1 $$ Ho
  simp only [bigSep_fin3]
  icases Ho' with ⟨Ho0, Ho1, Ho2⟩
  icases Hg with ⟨H0, H1, H2⟩
  iapply (wp_sendAG m K c b 1 (O + owe 3 c b 2 + owe 3 c b 0)) $$ [HO Ho1 H1]
  · isplitr; · iexact HR
    isplitl [HO]; · iexact HO
    isplitl [Ho1] <;> iassumption
  iintro ⟨HO, Hc1⟩
  iapply (wp_sendAG m K c b 0 (O + owe 3 c b 2)) $$ [HO Ho0 H0]
  · isplitr; · iexact HR
    isplitl [HO]; · iexact HO
    isplitl [Ho0] <;> iassumption
  iintro ⟨HO, Hc0⟩
  iapply (wp_sendAG m K c b 2 O) $$ [HO Ho2 H2]
  · isplitr; · iexact HR
    isplitl [HO]; · iexact HO
    isplitl [Ho2] <;> iassumption
  iintro ⟨HO, Hc2⟩
  iapply Hk
  isplitl [HO]; · iexact HO
  isplitl [Hc0]; · iexact Hc0
  isplitl [Hc1] <;> iassumption

/-- Reducing one block: the three landed blocks added to the device's own rows, the rows normalised and stored. -/
theorem wp_reduce (c : Dev nD) (b : Fin 4) (O : OT) (hO : Above 2 O) (Q : PUnit → sProp 𝕄) :
    iprop(records m K ∗ owesE c O ∗ ins m c ∗ (∃ f, outPts c c b fullShare f) ∗ waitPre c 1 b)
      ⊢ iprop(((owesE c O ∗ ins m c ∗ outPts c c b fullShare (outBuf m) ∗ waitPost m c 1 b) -∗ Q ⟨⟩) -∗ wpc c (phReduce c b) Q) := by
  unfold phReduce waitPre waitPost
  rw [bigSep_fin3, bigSep_fin3]
  simp only [wp_bind, pay_landed]
  iintro ⟨#HR, HO, Hin, ⟨%f, Hout⟩, ⟨Hc0, Ha0⟩, ⟨Hc1, Ha1⟩, ⟨Hc2, Ha2⟩⟩ Hk
  iapply (wp_loadX m c b) $$ Hin; iintro Hin
  iapply (wp_loadR m c b) $$ Hin; iintro Hin
  iapply (wp_waitX m K c 1 b 0 2 O hO (le_refl 2) (srcV c b 0) (landV b 0) _ _ (amt_land b 0)) $$ [Hc0 HO Ha0]
  · isplitr; · iexact HR
    isplitl [Hc0]; · iexact Hc0
    isplitl [HO] <;> iassumption
  iintro ⟨HO, Ha0, Hl0⟩
  ihave Hl0 := (Entails.of_eq (pay_landed m c b 0)) $$ Hl0
  iapply (wp_loadL m c b 0) $$ Hl0; iintro Hl0
  iapply (wp_waitX m K c 1 b 2 2 O hO (le_refl 2) (srcV c b 2) (landV b 2) _ _ (amt_land b 2)) $$ [Hc2 HO Ha2]
  · isplitr; · iexact HR
    isplitl [Hc2]; · iexact Hc2
    isplitl [HO] <;> iassumption
  iintro ⟨HO, Ha2, Hl2⟩
  ihave Hl2 := (Entails.of_eq (pay_landed m c b 2)) $$ Hl2
  iapply (wp_loadL m c b 2) $$ Hl2; iintro Hl2
  iapply (wp_waitX m K c 1 b 1 2 O hO (le_refl 2) (srcV c b 1) (landV b 1) _ _ (amt_land b 1)) $$ [Hc1 HO Ha1]
  · isplitr; · iexact HR
    isplitl [Hc1]; · iexact Hc1
    isplitl [HO] <;> iassumption
  iintro ⟨HO, Ha1, Hl1⟩
  ihave Hl1 := (Entails.of_eq (pay_landed m c b 1)) $$ Hl1
  iapply (wp_loadL m c b 1) $$ Hl1; iintro Hl1
  iapply (wp_loadG m c) $$ Hin; iintro Hin
  iapply (wp_loadO c b f) $$ Hout; iintro %v Hout
  iapply (wp_storeO m c b f) $$ Hout; iintro Hout
  iapply Hk
  isplitl [HO]; · iexact HO
  isplitl [Hin]; · iexact Hin
  isplitl [Hout]; · iexact Hout
  isplitl [Ha0 Hl0]
  · isplitl [Ha0] <;> iassumption
  isplitl [Ha1 Hl1]
  · isplitl [Ha1] <;> iassumption
  isplitl [Ha2] <;> iassumption

/-- The arrival of one block's rows from the other three devices. -/
theorem wp_arrive (c : Dev nD) (b : Fin 4) (Q : PUnit → sProp 𝕄) :
    iprop(records m K ∗ owesE c 0 ∗ waitPre c 3 b) ⊢ iprop(((owesE c 0 ∗ waitPost m c 3 b) -∗ Q ⟨⟩) -∗ wpc c (phArrive c b) Q) := by
  unfold phArrive waitPre waitPost
  rw [bigSep_fin3, bigSep_fin3]
  simp only [wp_bind]
  iintro ⟨#HR, HO, ⟨Hc0, Ha0⟩, ⟨Hc1, Ha1⟩, ⟨Hc2, Ha2⟩⟩ Hk
  iapply (wp_waitX m K c 3 b 0 3 0 (above_zero 3) (le_refl 3) (outV c b) (outV c b) _ _ (amt_out c b)) $$ [Hc0 HO Ha0]
  · isplitr; · iexact HR
    isplitl [Hc0]; · iexact Hc0
    isplitl [HO] <;> iassumption
  iintro ⟨HO, H0⟩
  iapply (wp_waitX m K c 3 b 2 3 0 (above_zero 3) (le_refl 3) (outV c b) (outV c b) _ _ (amt_out c b)) $$ [Hc2 HO Ha2]
  · isplitr; · iexact HR
    isplitl [Hc2]; · iexact Hc2
    isplitl [HO] <;> iassumption
  iintro ⟨HO, H2⟩
  iapply (wp_waitX m K c 3 b 1 3 0 (above_zero 3) (le_refl 3) (outV c b) (outV c b) _ _ (amt_out c b)) $$ [Hc1 HO Ha1]
  · isplitr; · iexact HR
    isplitl [Hc1]; · iexact Hc1
    isplitl [HO] <;> iassumption
  iintro ⟨HO, H1⟩
  iapply Hk
  isplitl [HO]; · iexact HO
  isplitl [H0]; · iexact H0
  isplitl [H1] <;> iassumption

/-- One block's two transfers along one offset index waited for. -/
theorem wp_drain2 (c : Dev nD) (b : Fin 4) (o : Fin 3) (Q : PUnit → sProp 𝕄) :
    iprop(records m K ∗ owesE c 0 ∗ (cred (tallyAt (xcell c 0 b o) () N) ∗ atPos ER (xcell c 0 b o) 0 ∅ 0) ∗ (cred (tallyAt (xcell c 2 b o) () N) ∗ atPos ER (xcell c 2 b o) 0 ∅ 0))
      ⊢ iprop(((owesE c 0 ∗ (atPos ER (xcell c 0 b o) 1 ∅ 0 ∗ xPay m c (0, b, o)) ∗ (atPos ER (xcell c 2 b o) 1 ∅ 0 ∗ xPay m c (2, b, o))) -∗ Q ⟨⟩)
        -∗ wpc c (stWaitSentRS c b o) (fun _ => wpc c (stWaitSentAG c b o) Q)) := by
  iintro ⟨#HR, HO, ⟨Hc0, Ha0⟩, ⟨Hc2, Ha2⟩⟩ Hk
  iapply (wp_waitX m K c 0 b o 0 0 (above_zero 0) (le_refl 0) (landV b o) (srcV c b o) _ _ (amt_src c b o)) $$ [Hc0 HO Ha0]
  · isplitr; · iexact HR
    isplitl [Hc0]; · iexact Hc0
    isplitl [HO] <;> iassumption
  iintro ⟨HO, H0⟩
  iapply (wp_waitX m K c 2 b o 0 0 (above_zero 0) (le_refl 0) (outV c b) (outV c b) _ _ (amt_out c b)) $$ [Hc2 HO Ha2]
  · isplitr; · iexact HR
    isplitl [Hc2]; · iexact Hc2
    isplitl [HO] <;> iassumption
  iintro ⟨HO, H2⟩
  iapply Hk
  isplitl [HO]; · iexact HO
  isplitl [H0] <;> iassumption

/-- Draining one block's own transfers. -/
theorem wp_drain (c : Dev nD) (b : Fin 4) (Q : PUnit → sProp 𝕄) :
    iprop(records m K ∗ owesE c 0 ∗ waitPre c 0 b ∗ waitPre c 2 b)
      ⊢ iprop(((owesE c 0 ∗ waitPost m c 0 b ∗ waitPost m c 2 b) -∗ Q ⟨⟩) -∗ wpc c (phDrain c b) Q) := by
  unfold phDrain waitPre waitPost
  simp only [bigSep_fin3, wp_bind]
  iintro ⟨#HR, HO, ⟨A0, A1, A2⟩, B0, B1, B2⟩ Hk
  iapply (wp_drain2 m K c b 1) $$ [HO A1 B1]
  · isplitr; · iexact HR
    isplitl [HO]; · iexact HO
    isplitl [A1] <;> iassumption
  iintro ⟨HO, A1, B1⟩
  iapply (wp_drain2 m K c b 0) $$ [HO A0 B0]
  · isplitr; · iexact HR
    isplitl [HO]; · iexact HO
    isplitl [A0] <;> iassumption
  iintro ⟨HO, A0, B0⟩
  iapply (wp_drain2 m K c b 2) $$ [HO A2 B2]
  · isplitr; · iexact HR
    isplitl [HO]; · iexact HO
    isplitl [A2] <;> iassumption
  iintro ⟨HO, A2, B2⟩
  iapply Hk
  isplitl [HO]; · iexact HO
  isplitl [A0 A1 A2]
  · isplitl [A0]; · iexact A0
    isplitl [A1] <;> iassumption
  isplitl [B0]; · iexact B0
  isplitl [B1] <;> iassumption

end Cert.Run

end
-- ==== Proof.Body.lean ====
/-
The whole body, from what a device starts with to what it ends with: the phases' rules put together.
-/
module

public import proofs.«01_k».proof.Proof.Phases

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (K : Dev nD × Ck → ℕ)

/-! ## Families over blocks and offset indices -/

/-- One assertion for each block and offset index. -/
abbrev fam (Φ : Fin 4 → Fin 3 → sProp 𝕄) : sProp 𝕄 := bigSep Finset.univ fun b => bigSep Finset.univ fun o => Φ b o

omit [FloatOps F] in
theorem fam_sep (Φ Ψ : Fin 4 → Fin 3 → sProp 𝕄) : fam (fun b o => iprop(Φ b o ∗ Ψ b o)) = iprop(fam Φ ∗ fam Ψ) :=
  (bigSep_congr fun _ _ => bigSep_sep' Finset.univ _ _).trans (bigSep_sep' Finset.univ _ _)

/-- Device `c`'s positions on its own cells of kind `k`, -/
def poss (c : Dev nD) (k : Fin 4) (r : ℕ) : sProp 𝕄 := fam fun b o => atPos ER (xcell c k b o) r ∅ 0
/-- the tokens of the duties it pays on its own cells of kind `k`, -/
def ownToks (c : Dev nD) (k : Fin 4) : sProp 𝕄 := fam fun b o => dutyTok ER (xcell c k b o) 0 0
/-- and those of the duties it pays on the other devices' cells of kind `k`. -/
def peerToks (c : Dev nD) (k : Fin 4) : sProp 𝕄 := fam fun b o => dutyTok ER (xcell (tgt c o) k b o) 0 0

/-- The positions on all of a device's cells, -/
def allPos (c : Dev nD) (r : ℕ) : sProp 𝕄 := bigSep Finset.univ fun x : Ck => atPos ER (kcell c x) r ∅ 0
omit [FloatOps F] in
/-- by kind. -/
theorem allPos_eq (c : Dev nD) (r : ℕ) :
    (allPos c r : sProp 𝕄) = iprop(atPos ER (barCell c) r ∅ 0 ∗ poss c 0 r ∗ poss c 1 r ∗ poss c 2 r ∗ poss c 3 r) := by
  unfold allPos
  refine (bigSep_univ_sum _).trans (congrArg₂ _ ?_ ?_)
  · rw [Finset.univ_unique, bigSep_singleton]
  · refine (bigSep_univ_prod _).trans ((bigSep_fin4 _).trans ?_)
    unfold poss fam
    simp only [bigSep_univ_prod]

omit [FloatOps F] in
theorem waitPre_fam (c : Dev nD) (k : Fin 4) :
    (bigSep Finset.univ fun b => waitPre c k b : sProp 𝕄) = iprop((bigSep Finset.univ fun b => sentCred c k b) ∗ poss c k 0) :=
  fam_sep (fun b o => cred (tallyAt (xcell c k b o) () N)) fun b o => atPos ER (xcell c k b o) 0 ∅ 0
theorem waitPost_fam (c : Dev nD) (k : Fin 4) :
    (bigSep Finset.univ fun b => waitPost m c k b : sProp 𝕄) = iprop(poss c k 1 ∗ fam fun b o => xPay m c (k, b, o)) :=
  fam_sep (fun b o => atPos ER (xcell c k b o) 1 ∅ 0) fun b o => xPay m c (k, b, o)
theorem scatPre_fam (c : Dev nD) :
    (bigSep Finset.univ fun b => scatPre m c b : sProp 𝕄)
      = iprop((fam fun b o => srcPts m c b o) ∗ (fam fun b o => iprop(∃ f, landPts (tgt c o) b o f)) ∗ ownToks c 0 ∗ peerToks c 1) := by
  unfold ownToks peerToks
  rw [← fam_sep, ← fam_sep, ← fam_sep]; rfl
omit [FloatOps F] in
theorem gathPre_fam (c : Dev nD) :
    (bigSep Finset.univ fun b => gathPre c b : sProp 𝕄) = iprop((fam fun b o => iprop(∃ f, outPts (tgt c o) c b fullShare f)) ∗ ownToks c 2 ∗ peerToks c 3) := by
  unfold ownToks peerToks
  rw [← fam_sep, ← fam_sep]; rfl
omit [FloatOps F] in
/-- What the three barrier signals brought: the other devices' landing slots and their copies of `c`'s rows. -/
theorem barPay_fam (c : Dev nD) :
    (bigSep Finset.univ fun j => barPay c j : sProp 𝕄)
      = iprop((fam fun b o => iprop(∃ f, landPts (tgt c o) b o f)) ∗ fam fun b o => iprop(∃ f, outPts (tgt c o) c b fullShare f)) := by
  rw [← fam_sep]; exact bigSep_univ_comm _

/-! ## Start and end -/

/-- What stays with device `c` from the launch: the tokens of the duties it pays, its positions. -/
def linear (c : Dev nD) : sProp 𝕄 :=
  iprop((bigSep Finset.univ fun i => dutyTok ER (barCell (tgt c i)) 0 (rev i)) ∗ ownToks c 0 ∗ peerToks c 1 ∗ ownToks c 2 ∗ peerToks c 3 ∗ allPos c 0)

/-- What the body starts from. -/
def bodyStart (c : Dev nD) : sProp 𝕄 :=
  iprop(records m K ∗ linear c ∗ credits c ∗ owesE c (O₀ c) ∗ ins m c
    ∗ (∃ f, (c : Thread nD τ).loc cc0_stg3_0 ↦{fullShare} f)
    ∗ (∃ f, (c : Thread nD τ).loc cc0_scratch0 ↦{fullShare} f) ∗ ∃ f, (c : Thread nD τ).loc cc0_scratch1 ↦{fullShare} f)

/-- What it ends with: the result whole, the scratch buffers, and every semaphore of its own at zero. -/
def bodyEnd (c : Dev nD) : sProp 𝕄 :=
  iprop(owesE c 0 ∗ ins m c ∗ ((c : Thread nD τ).loc cc0_stg3_0 ↦{fullShare} (outBuf m))
    ∗ (∃ f, (c : Thread nD τ).loc cc0_scratch0 ↦{fullShare} f) ∗ (∃ f, (c : Thread nD τ).loc cc0_scratch1 ↦{fullShare} f)
    ∗ bigSep Finset.univ fun x : Ck => semVal (kcell c x) 0)

/-- Every cell has had its one round, and closes. -/
theorem close_all (c : Dev nD) : iprop(records m K ∗ allPos c 1) ⊢ |={Set.univ}=> (bigSep Finset.univ fun x : Ck => semVal (kcell c x) 0 : sProp 𝕄) := by
  unfold allPos
  refine BIBase.Entails.trans (BIBase.Entails.trans (sep_mono_left (BI.bigSep_of_persistent (Finset.univ : Finset Ck) (records m K))) ?_)
    (bigSep_fupd Finset.univ fun x : Ck => (semVal (kcell c x) 0 : sProp 𝕄))
  rw [← bigSep_sep']
  refine mono_univ fun x => ?_
  iintro ⟨#HR, Hat⟩
  iapply (Rounds.cell_close ER (rd m) (Set.mem_univ (K (c, x))) (fun h => h) (R := 0 + 1) (duties_later m (kcell c x)))
  isplitr; · iapply (inv_at m K (c, x)); iexact HR
  iexact Hat

/-- The sent blocks come back, and with those kept they are the send buffer whole. -/
theorem end_sbuf (c : Dev nD) :
    iprop((bigSep Finset.univ fun b => keptPts m c b) ∗ fam fun b o => xPay m c (0, b, o)) ⊢ (iprop(∃ f, (c : Thread nD τ).loc cc0_scratch0 ↦{fullShare} f) : sProp 𝕄) := by
  iintro H
  iexists (sbuf m c)
  rw [sbuf_split m c]
  iexact H

/-- The landed slots are the landing buffer whole. -/
theorem end_land (c : Dev nD) : (fam fun b o => xPay m c (1, b, o)) ⊢ (iprop(∃ f, (c : Thread nD τ).loc cc0_scratch1 ↦{fullShare} f) : sProp 𝕄) := by
  refine BIBase.Entails.trans (mono_univ fun b => mono_univ fun o => ?_) (land_join c (m ((c : Thread nD τ).loc cc0_scratch1)))
  show landedPts m c b o ⊢ _
  unfold landedPts
  iintro ⟨%f, -, H⟩
  iexists f; iexact H

/-- The device's own blocks, back from the transfers, and those that arrived are the result whole. -/
theorem end_out (c : Dev nD) :
    iprop((fam fun b o => xPay m c (2, b, o)) ∗ fam fun b o => xPay m c (3, b, o)) ⊢ ((c : Thread nD τ).loc cc0_stg3_0 ↦{fullShare} (outBuf m) : sProp 𝕄) := by
  rw [out_split c (outBuf m)]
  iintro ⟨H2, H3⟩
  isplitl [H2]
  · iapply (mono_univ fun b => show (bigSep Finset.univ fun o => xPay m c (2, b, o)) ⊢ outPts c c b fullShare (outBuf m) from (out_thirds c c b (outBuf m)).2)
    iexact H2
  · iapply (Entails.of_eq ((bigSep_univ_comm fun (b : Fin 4) (o : Fin 3) => (outPts c (org c o) b fullShare (outBuf m) : sProp 𝕄)).trans
      (bigSep_univ_equiv revE fun o : Fin 3 => bigSep Finset.univ fun b : Fin 4 => (outPts c (tgt c o) b fullShare (outBuf m) : sProp 𝕄)).symm))
    iexact H3

/-! ## The body -/

theorem owedR_cons (c : Dev nD) (b : Fin 4) (bs : List (Fin 4)) : owedR c (b :: bs) = addK 1 c b (owedR c bs) := rfl
theorem owedR_nil (c : Dev nD) : owedR c [] = owedA c [0, 1, 2, 3] := rfl
theorem owedA_cons (c : Dev nD) (b : Fin 4) (bs : List (Fin 4)) : owedA c (b :: bs) = addK 3 c b (owedA c bs) := rfl
theorem owedA_nil (c : Dev nD) : owedA c [] = 0 := rfl

/-- One block reduced and gathered. -/
theorem wp_block (c : Dev nD) (b : Fin 4) (bs : List (Fin 4)) (Q : PUnit → sProp 𝕄) :
    iprop(records m K ∗ owesE c (owedA c (b :: bs)) ∗ ins m c ∗ (∃ f, outPts c c b fullShare f) ∗ waitPre c 1 b ∗ gathPre c b)
      ⊢ iprop(((owesE c (owedA c bs) ∗ ins m c ∗ waitPost m c 1 b ∗ sentCred c 2 b) -∗ Q ⟨⟩) -∗ wpc c (phReduce c b) (fun _ => wpc c (phGather c b) Q)) := by
  iintro ⟨#HR, HO, Hin, Ho, Hw, Hg⟩ Hk
  iapply (wp_reduce m K c b (owedA c (b :: bs)) (above_owedA c _)) $$ [HO Hin Ho Hw]
  · isplitr; · iexact HR
    isplitl [HO]; · iexact HO
    isplitl [Hin]; · iexact Hin
    isplitl [Ho] <;> iassumption
  iintro ⟨HO, Hin, Ho, Hw⟩
  iapply (wp_gather m K c b (owedA c bs)) $$ [HO Hg Ho]
  · isplitr; · iexact HR
    isplitl [HO]; · iexact HO
    isplitl [Hg] <;> iassumption
  iintro ⟨HO, Hs⟩
  iapply Hk
  isplitl [HO]; · iexact HO
  isplitl [Hin]; · iexact Hin
  isplitl [Hw] <;> iassumption

set_option maxHeartbeats 1000000 in
/-- The body of device `c`. -/
theorem wp_body (c : Dev nD) (Q : PUnit → sProp 𝕄) : iprop(bodyStart m K c ∗ (bodyEnd m c -∗ Q ⟨⟩)) ⊢ wpc c bodyProg Q := by
  unfold bodyProg
  simp only [Prog.lift, Prog.bind_op, Prog.bind_ret, wp_deviceId]
  unfold bodyOf bodyStart linear credits
  simp only [wp_bind]
  rw [allPos_eq]
  iintro ⟨⟨#HR, ⟨Htb, Ht0, Ht1, Ht2, Ht3, Hab, Ha0, Ha1, Ha2, Ha3⟩, ⟨Hcb, Hc1, Hc3⟩, HO, Hin, ⟨%fo, Hout⟩, Hs, Hl⟩, Hk⟩
  ihave Hh := (hand_split c fo) $$ [Hl Hout]
  · isplitl [Hl] <;> iassumption
  icases Hh with ⟨Hh, Hout⟩
  iapply (wp_enter m K c) $$ [HO Htb Hh Hin Hs Hcb Hab]
  · isplitr; · iexact HR
    isplitl [HO]; · iexact HO
    isplitl [Htb Hh]
    · iapply (Entails.of_eq (bigSep_sep' Finset.univ (fun i : Fin 3 => (dutyTok ER (barCell (tgt c i)) 0 (rev i) : sProp 𝕄)) fun i => handPay c i).symm)
      isplitl [Htb] <;> iassumption
    isplitl [Hin]; · iexact Hin
    isplitl [Hs]; · iexact Hs
    isplitl [Hcb] <;> iassumption
  rw [barPay_fam c, sbuf_split m c]
  iintro ⟨HO, Hin, ⟨Hkept, Hsrc⟩, Hab, Hland, Hrow⟩
  ihave Hsc := (Entails.of_eq (scatPre_fam m c).symm) $$ [Hsrc Hland Ht0 Ht1]
  · isplitl [Hsrc]; · iexact Hsrc
    isplitl [Hland]; · iexact Hland
    isplitl [Ht0] <;> iassumption
  ihave Hg := (Entails.of_eq (gathPre_fam c).symm) $$ [Hrow Ht2 Ht3]
  · isplitl [Hrow]; · iexact Hrow
    isplitl [Ht2] <;> iassumption
  ihave Hw1 := (Entails.of_eq (waitPre_fam c 1).symm) $$ [Hc1 Ha1]
  · isplitl [Hc1]; · iexact Hc1
    iexact Ha1
  ihave Hw3 := (Entails.of_eq (waitPre_fam c 3).symm) $$ [Hc3 Ha3]
  · isplitl [Hc3]; · iexact Hc3
    iexact Ha3
  -- the four scatters
  ihave Hsc := (Entails.of_eq (bigSep_fin4 _)) $$ Hsc
  icases Hsc with ⟨Hsc0, Hsc1, Hsc2, Hsc3⟩
  iapply (wp_scatter m K c 0 (owedR c [1, 2, 3])) $$ [HO Hsc0]
  · isplitr; · iexact HR
    isplitl [HO]; · iexact HO
    iexact Hsc0
  iintro ⟨HO, Hs0⟩
  iapply (wp_scatter m K c 1 (owedR c [2, 3])) $$ [HO Hsc1]
  · isplitr; · iexact HR
    isplitl [HO]; · iexact HO
    iexact Hsc1
  iintro ⟨HO, Hs1⟩
  iapply (wp_scatter m K c 2 (owedR c [3])) $$ [HO Hsc2]
  · isplitr; · iexact HR
    isplitl [HO]; · iexact HO
    iexact Hsc2
  iintro ⟨HO, Hs2⟩
  iapply (wp_scatter m K c 3 (owedR c [])) $$ [HO Hsc3]
  · isplitr; · iexact HR
    isplitl [HO]; · iexact HO
    iexact Hsc3
  iintro ⟨HO, Hs3⟩
  -- the four blocks
  rw [owedR_nil]
  ihave Hg := (Entails.of_eq (bigSep_fin4 _)) $$ Hg
  icases Hg with ⟨Hg0, Hg1, Hg2, Hg3⟩
  ihave Hw1 := (Entails.of_eq (bigSep_fin4 _)) $$ Hw1
  icases Hw1 with ⟨Hw0, Hw1, Hw2, Hw4⟩
  ihave Hout := (Entails.of_eq (bigSep_fin4 _)) $$ Hout
  icases Hout with ⟨Ho0, Ho1, Ho2, Ho3⟩
  iapply (wp_block m K c 0 [1, 2, 3]) $$ [HO Hin Ho0 Hw0 Hg0]
  · isplitr; · iexact HR
    isplitl [HO]; · iexact HO
    isplitl [Hin]; · iexact Hin
    isplitl [Ho0]; · iexists fo; iexact Ho0
    isplitl [Hw0] <;> iassumption
  iintro ⟨HO, Hin, Hp0, Hq0⟩
  iapply (wp_block m K c 1 [2, 3]) $$ [HO Hin Ho1 Hw1 Hg1]
  · isplitr; · iexact HR
    isplitl [HO]; · iexact HO
    isplitl [Hin]; · iexact Hin
    isplitl [Ho1]; · iexists fo; iexact Ho1
    isplitl [Hw1] <;> iassumption
  iintro ⟨HO, Hin, Hp1, Hq1⟩
  iapply (wp_block m K c 2 [3]) $$ [HO Hin Ho2 Hw2 Hg2]
  · isplitr; · iexact HR
    isplitl [HO]; · iexact HO
    isplitl [Hin]; · iexact Hin
    isplitl [Ho2]; · iexists fo; iexact Ho2
    isplitl [Hw2] <;> iassumption
  iintro ⟨HO, Hin, Hp2, Hq2⟩
  iapply (wp_block m K c 3 []) $$ [HO Hin Ho3 Hw4 Hg3]
  · isplitr; · iexact HR
    isplitl [HO]; · iexact HO
    isplitl [Hin]; · iexact Hin
    isplitl [Ho3]; · iexists fo; iexact Ho3
    isplitl [Hw4] <;> iassumption
  iintro ⟨HO, Hin, Hp3, Hq3⟩
  -- the four arrivals
  rw [owedA_nil]
  ihave Hw3 := (Entails.of_eq (bigSep_fin4 _)) $$ Hw3
  icases Hw3 with ⟨Hw0, Hw1, Hw2, Hw3⟩
  iapply (wp_arrive m K c 0) $$ [HO Hw0]
  · isplitr; · iexact HR
    isplitl [HO] <;> iassumption
  iintro ⟨HO, Hr0⟩
  iapply (wp_arrive m K c 1) $$ [HO Hw1]
  · isplitr; · iexact HR
    isplitl [HO] <;> iassumption
  iintro ⟨HO, Hr1⟩
  iapply (wp_arrive m K c 2) $$ [HO Hw2]
  · isplitr; · iexact HR
    isplitl [HO] <;> iassumption
  iintro ⟨HO, Hr2⟩
  iapply (wp_arrive m K c 3) $$ [HO Hw3]
  · isplitr; · iexact HR
    isplitl [HO] <;> iassumption
  iintro ⟨HO, Hr3⟩
  -- the four drains
  ihave Hd0 := (Entails.of_eq ((waitPre_fam c 0).symm.trans (bigSep_fin4 _))) $$ [Hs0 Hs1 Hs2 Hs3 Ha0]
  · isplitr [Ha0]
    · iapply (Entails.of_eq (bigSep_fin4 _).symm)
      isplitl [Hs0]; · iexact Hs0
      isplitl [Hs1]; · iexact Hs1
      isplitl [Hs2] <;> iassumption
    · iexact Ha0
  ihave Hd2 := (Entails.of_eq ((waitPre_fam c 2).symm.trans (bigSep_fin4 _))) $$ [Hq0 Hq1 Hq2 Hq3 Ha2]
  · isplitr [Ha2]
    · iapply (Entails.of_eq (bigSep_fin4 _).symm)
      isplitl [Hq0]; · iexact Hq0
      isplitl [Hq1]; · iexact Hq1
      isplitl [Hq2] <;> iassumption
    · iexact Ha2
  icases Hd0 with ⟨A0, A1, A2, A3⟩
  icases Hd2 with ⟨B0, B1, B2, B3⟩
  iapply (wp_drain m K c 0) $$ [HO A0 B0]
  · isplitr; · iexact HR
    isplitl [HO]; · iexact HO
    isplitl [A0] <;> iassumption
  iintro ⟨HO, A0, B0⟩
  iapply (wp_drain m K c 1) $$ [HO A1 B1]
  · isplitr; · iexact HR
    isplitl [HO]; · iexact HO
    isplitl [A1] <;> iassumption
  iintro ⟨HO, A1, B1⟩
  iapply (wp_drain m K c 2) $$ [HO A2 B2]
  · isplitr; · iexact HR
    isplitl [HO]; · iexact HO
    isplitl [A2] <;> iassumption
  iintro ⟨HO, A2, B2⟩
  iapply (wp_fupd Idealize.ShloMosaic.frame (wpE (defs₀ (F := F)) 𝒱₀ (c : Thread nD τ) none) Set.univ (phDrain c 3) Q)
  iapply (wp_drain m K c 3) $$ [HO A3 B3]
  · isplitr; · iexact HR
    isplitl [HO]; · iexact HO
    isplitl [A3] <;> iassumption
  iintro ⟨HO, A3, B3⟩
  -- every family together again
  ihave A := (Entails.of_eq ((bigSep_fin4 _).symm.trans (waitPost_fam m c 0))) $$ [A0 A1 A2 A3]
  · isplitl [A0]; · iexact A0
    isplitl [A1]; · iexact A1
    isplitl [A2] <;> iassumption
  ihave B := (Entails.of_eq ((bigSep_fin4 _).symm.trans (waitPost_fam m c 2))) $$ [B0 B1 B2 B3]
  · isplitl [B0]; · iexact B0
    isplitl [B1]; · iexact B1
    isplitl [B2] <;> iassumption
  ihave P := (Entails.of_eq ((bigSep_fin4 _).symm.trans (waitPost_fam m c 1))) $$ [Hp0 Hp1 Hp2 Hp3]
  · isplitl [Hp0]; · iexact Hp0
    isplitl [Hp1]; · iexact Hp1
    isplitl [Hp2] <;> iassumption
  ihave R := (Entails.of_eq ((bigSep_fin4 _).symm.trans (waitPost_fam m c 3))) $$ [Hr0 Hr1 Hr2 Hr3]
  · isplitl [Hr0]; · iexact Hr0
    isplitl [Hr1]; · iexact Hr1
    isplitl [Hr2] <;> iassumption
  icases A with ⟨A, A'⟩
  icases B with ⟨B, B'⟩
  icases P with ⟨P, P'⟩
  icases R with ⟨R, R'⟩
  imod (close_all m K c) $$ [Hab A B P R] with Hz
  · isplitr; · iexact HR
    rw [allPos_eq]
    isplitl [Hab]; · iexact Hab
    isplitl [A]; · iexact A
    isplitl [P]; · iexact P
    isplitl [B] <;> iassumption
  imodintro
  iapply Hk
  unfold bodyEnd
  isplitl [HO]; · iexact HO
  isplitl [Hin]; · iexact Hin
  isplitl [B' R']
  · iapply (end_out m c)
    isplitl [B'] <;> iassumption
  isplitl [Hkept A']
  · iapply (end_sbuf m c)
    isplitl [Hkept] <;> iassumption
  isplitl [P']
  · iapply (end_land m c); iexact P'
  iexact Hz

end Cert.Run

end
-- ==== Proof.Launch.lean ====
/-
The launch: the proof data of the kernel call, the ghost state dealt to the devices, and the run of @main.
-/
module

public import proofs.«01_k».proof.Proof.Body
public import proofs.«01_k».proof.Proof.Gen.KernelIdeal.Points
public import Idealize.ShloMosaic.Lib.Pipeline.CollectiveSegs

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ)

variable (ρ : Dev nD → PrngReg)

/-- Where the run starts: memory `m`, every counter at zero. -/
def s₀ : MemSt nD τ sig (Elt F) := ⟨m, fun _ => 0, ρ⟩

/-! ## The proof data -/

/-- The cells' invariants and that every cell has reached round 0. -/
def recs (K : Dev nD × Ck → ℕ) : sProp 𝕄 :=
  iprop((bigSep Finset.univ fun p : Dev nD × Ck => cellInv ER (rd m) (K p) (kcell p.1 p.2))
    ∗ (bigSep Finset.univ fun p : Dev nD × Ck => reached ER (kcell p.1 p.2) 0))
instance recs_persistent (K : Dev nD × Ck → ℕ) : BI.Persistent (recs m K) := by unfold recs; infer_instance

/-- What the launch's ghost step gives device `c`. -/
def G' (c : Dev nD) : sProp 𝕄 := iprop(∃ K, recs m K ∗ linear c)
/-- What device `c` starts from, -/
def start (c : Dev nD) : sProp 𝕄 := iprop((∃ K, records m K ∗ linear c) ∗ credits c)
/-- the scratch buffers included; -/
def Φ₀ (c : Dev nD) : sProp 𝕄 :=
  iprop(start m c ∗ (∃ f, (c : Thread nD τ).loc cc0_scratch0 ↦{fullShare} f) ∗ ∃ f, (c : Thread nD τ).loc cc0_scratch1 ↦{fullShare} f)
/-- what it ends with: the scratch buffers and its semaphores at zero. -/
def Φ₁ (c : Dev nD) : sProp 𝕄 :=
  iprop((∃ f, (c : Thread nD τ).loc cc0_scratch0 ↦{fullShare} f) ∗ (∃ f, (c : Thread nD τ).loc cc0_scratch1 ↦{fullShare} f)
    ∗ bigSep Finset.univ fun x : Ck => semVal (kcell c x) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => rstg m c
    | ⟨2, _⟩ => gstg m c
    | ⟨3, _⟩ => outBuf m
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

/-- A staging buffer whole, holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The body obligation -/

/-- What the call's one point hands the body, -/
def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
/-- and what it takes back. -/
def bodyPost (c : Dev nD) : sProp 𝕄 :=
  iprop(Φ₁ c ∗ (dats m ρ 0 c).owesAt () t0_0.succ ∗ stg c cc0_stg0_0 (xstg m c) ∗ stg c cc0_stg1_0 (rstg m c) ∗ stg c cc0_stg2_0 (gstg m c)
    ∗ stg c cc0_stg3_0 (outBuf m))

theorem before_x (c : Dev nD) (d) : (dats m ρ 0 c).before (0 : Fin 4) t0_0 d = xstg m c := by unfold Dat.before; rw [if_pos (fetch0_0 t0_0)]; rfl
theorem before_r (c : Dev nD) (d) : (dats m ρ 0 c).before (1 : Fin 4) t0_0 d = rstg m c := by unfold Dat.before; rw [if_pos (fetch0_1 t0_0)]; rfl
theorem before_g (c : Dev nD) (d) : (dats m ρ 0 c).before (2 : Fin 4) t0_0 d = gstg m c := by unfold Dat.before; rw [if_pos (fetch0_2 t0_0)]; rfl

theorem sound_body (c : Dev nD) : bodyPre m ρ c ⊢ wpc c (bodyProg (F := F)) fun _ => bodyPost m ρ c := by
  unfold bodyPre Φ₀ start Dat.owesAt Pipeline.owesWithin
  rw [show (dats m ρ 0 c).owed t0_0.castSucc = O₀ c from rfl]
  simp only [before_x, before_r, before_g]
  iintro ⟨⟨⟨⟨%K, HR, Hlin⟩, Hcr⟩, Hs, Hl⟩, ⟨%W, -, HO⟩, ⟨%d0, %f0, %h0, Hx⟩, ⟨%d1, %f1, %h1, Hr⟩, ⟨%d2, %f2, %h2, Hg⟩, ⟨%d3, %f3, -, Hout⟩⟩
  subst h0 h1 h2
  iapply (wp_body m K c)
  unfold bodyStart ins owesE
  isplitr []
  · isplitl [HR]; · iexact HR
    isplitl [Hlin]; · iexact Hlin
    isplitl [Hcr]; · iexact Hcr
    isplitl [HO]; · iexists W; iexact HO
    isplitl [Hx Hr Hg]
    · isplitl [Hx]; · iexact Hx
      isplitl [Hr] <;> iassumption
    isplitl [Hout]; · iexists f3; iexact Hout
    isplitl [Hs] <;> iassumption
  · unfold bodyEnd bodyPost Φ₁ ins owesE Dat.owesAt Pipeline.owesWithin
    rw [show (dats m ρ 0 c).owed t0_0.succ = 0 from rfl]
    iintro ⟨⟨%W', HO⟩, ⟨Hx, Hr, Hg⟩, Hout, Hs, Hl, Hz⟩
    isplitl [Hs Hl Hz]
    · isplitl [Hs]; · iexact Hs
      isplitl [Hl] <;> iassumption
    isplitl [HO]
    · iexists W'
      isplitr; · ipureintro; exact fun _ _ => Or.inl trivial
      iexact HO
    isplitl [Hx]
    · iexists _; isplitr; · (ipureintro; rfl)
      iexact Hx
    isplitl [Hr]
    · iexists _; isplitr; · (ipureintro; rfl)
      iexact Hr
    isplitl [Hg]
    · iexists _; isplitr; · (ipureintro; rfl)
      iexact Hg
    iexists _; isplitr; · (ipureintro; rfl)
    iexact Hout

set_option maxRecDepth 100000 in
/-- The library's body obligation on device `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wpc c (cc0_body xM (Memref.isWhole_whole _) rM (Memref.isWhole_whole _) gM (Memref.isWhole_whole _) oM (Memref.isWhole_whole _)
    sM (Memref.isWhole_whole _) lM (Memref.isWhole_whole _) cc0_scratch2 cc0_scratch3 cc0_scratch4 cc0_scratch5) (fun _ => bodyPost m ρ c)
  rw [body_eq]
  exact sound_body m ρ c

/-! ## The ghost state at launch -/

theorem share_eq (c : Dev nD) (w : Fin cfg0.W) : (dats m ρ 0 c).share w = fullShare := by unfold Dat.share; split <;> rfl

theorem kcell_inj : Function.Injective (fun p : Dev nD × Ck => kcell p.1 p.2) := fun p q h => by
  have := kcell_eq_iff.mp h
  exact Prod.ext this.1 this.2
def allCells : Finset (GSem nD τ sig) := Finset.univ.map ⟨fun p : Dev nD × Ck => kcell p.1 p.2, kcell_inj⟩

/-- A device's duty tokens: its barrier's three, each transfer cell's one. -/
abbrev Tk : Type := Fin 3 ⊕ Kx
def tokCell : Tk → Ck
  | .inl _ => .inl ()
  | .inr x => .inr x
def tokDuty : Tk → Fin 3
  | .inl d => d
  | .inr _ => 0
theorem tok_ext {s t : Tk} (h : tokCell s = tokCell t) (h' : tokDuty s = tokDuty t) : s = t := by
  rcases s with s | s <;> rcases t with t | t
  · exact congrArg _ h'
  · cases h
  · cases h
  · exact congrArg _ (Sum.inr.inj h)
abbrev tokOf (p : Dev nD × Tk) : GSem nD τ sig × ℕ × Fin 3 := (kcell p.1 (tokCell p.2), 0, tokDuty p.2)
theorem tokOf_inj : Function.Injective tokOf := fun p q h => by
  have h1 := kcell_eq_iff.mp (congrArg Prod.fst h)
  exact Prod.ext h1.1 (tok_ext h1.2 (congrArg (fun x : GSem nD τ sig × ℕ × Fin 3 => x.2.2) h))
def allToks : Finset (GSem nD τ sig × ℕ × Fin 3) := Finset.univ.map ⟨tokOf, tokOf_inj⟩

def u₀ : UU := (initOf (Pipeline.cells cfgs cellOf_inj) (Pipeline.launchToks cfgs cellOf_inj), initOf allCells allToks)

/-- The token at index `p`. -/
def tokAt (p : Dev nD × Tk) : sProp 𝕄 := dutyTok ER (kcell p.1 (tokCell p.2)) 0 (tokDuty p.2)

/-- What the launch element deals device `c`. -/
def G (c : Dev nD) : sProp 𝕄 :=
  iprop((bigSep Finset.univ fun x : Ck => roundState ER (rd m) (kcell c x) 0)
    ∗ (allPos c 0 ∗ bigSep Finset.univ fun x : Ck => reached ER (kcell c x) 0) ∗ bigSep Finset.univ fun t : Tk => tokAt (c, t))

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun x : Ck => Φ (kcell c x) := by
    unfold allCells; rw [bigSep_map, bigSep_univ_prod]; rfl
  have hT : bigSep allToks (fun x => (dutyTok ER x.1 x.2.1 x.2.2 : sProp 𝕄)) = bigSep Finset.univ fun c : Dev nD => bigSep Finset.univ fun t : Tk => tokAt (c, t) := by
    unfold allToks; rw [bigSep_map, bigSep_univ_prod]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G allPos; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
/-- The kernel's own semaphores and the barrier semaphore are the device's cells. -/
theorem sems0_eq (c : Dev nD) :
    (bigSep Finset.univ fun x : Ck => semVal (kcell c x) 0 : sProp 𝕄)
      = iprop(unscopedSems0 c ∗ Pipeline.ownSems0 (Ix := Unit) (Name := ℕ) (U := UU) (Lvl := ℕ) (Val := Elt F) (τ := τ) osem c) := by
  rw [unscopedSems0_eq]
  refine (bigSep_univ_sum _).trans (congrArg₂ _ ?_ ?_)
  · rw [Finset.univ_unique, bigSep_singleton]
  · rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : Ck => iprop(∃ κ : ℕ, cellInv ER (rd m) κ (kcell c x)))
          ∗ (allPos c 0 ∗ bigSep Finset.univ fun x : Ck => reached ER (kcell c x) 0) ∗ bigSep Finset.univ fun t : Tk => tokAt (c, t)) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun x : Ck => semVal (kcell c x) 0) ∗ bigSep Finset.univ fun x : Ck => roundState ER (rd m) (kcell c x) 0)
      ⊢ (|={Set.univ}=> bigSep Finset.univ fun x : Ck => iprop(∃ κ : ℕ, cellInv ER (rd m) κ (kcell c x)) : sProp 𝕄) from by
        rw [← bigSep_sep']
        exact BIBase.Entails.trans (bigSep_mono fun x _ => (Rounds.body_intro ER (rd m) (kcell c x)).trans inv_alloc) (bigSep_fupd _ _)) $$ [Hv Hst] with Hinv
  · isplitl [Hv] <;> iassumption
  imodintro
  isplitl [Hinv]; · iexact Hinv
  isplitl [Hat]; · iexact Hat
  iexact Htok

/-! ### The tokens dealt to the devices that pay with them -/

/-- Whose cell device `c` pays: for the sending kinds its own, for the landing kinds the receiver's; -/
def dst (k : Fin 4) (c : Dev nD) (o : Fin 3) : Dev nD := match k with
  | 0 => c | 1 => tgt c o | 2 => c | 3 => tgt c o
/-- and back. -/
def src (k : Fin 4) (c : Dev nD) (o : Fin 3) : Dev nD := match k with
  | 0 => c | 1 => org c o | 2 => c | 3 => org c o
theorem src_dst (k : Fin 4) (c : Dev nD) (o : Fin 3) : src k (dst k c o) o = c := by revert k c o; decide
theorem dst_src (k : Fin 4) (c : Dev nD) (o : Fin 3) : dst k (src k c o) o = c := by revert k c o; decide

/-- The token a device pays with as its token `t`. -/
def deal : Dev nD × Tk → Dev nD × Tk
  | (c, .inl i) => (tgt c i, .inl (rev i))
  | (c, .inr x) => (dst x.1 c x.2.2, .inr x)
def undeal : Dev nD × Tk → Dev nD × Tk
  | (c, .inl i) => (tgt c i, .inl (rev i))
  | (c, .inr x) => (src x.1 c x.2.2, .inr x)
def dealE : (Dev nD × Tk) ≃ (Dev nD × Tk) where
  toFun := deal
  invFun := undeal
  left_inv := fun p => by
    obtain ⟨c, i | x⟩ := p
    · show (tgt (tgt c i) (rev i), (.inl (rev (rev i)) : Tk)) = _; rw [tgt_rev, rev_rev]
    · show (src x.1 (dst x.1 c x.2.2) x.2.2, (.inr x : Tk)) = _; rw [src_dst]
  right_inv := fun p => by
    obtain ⟨c, i | x⟩ := p
    · show (tgt (tgt c i) (rev i), (.inl (rev (rev i)) : Tk)) = _; rw [tgt_rev, rev_rev]
    · show (dst x.1 (src x.1 c x.2.2) x.2.2, (.inr x : Tk)) = _; rw [dst_src]

omit [FloatOps F] in
/-- A device's dealt tokens, by kind. -/
theorem dealt (c : Dev nD) :
    (bigSep Finset.univ fun t : Tk => tokAt (deal (c, t)) : sProp 𝕄)
      = iprop((bigSep Finset.univ fun i => dutyTok ER (barCell (tgt c i)) 0 (rev i)) ∗ ownToks c 0 ∗ peerToks c 1 ∗ ownToks c 2 ∗ peerToks c 3) := by
  refine (bigSep_univ_sum _).trans (congrArg₂ _ rfl ?_)
  refine (bigSep_univ_prod _).trans ((bigSep_fin4 _).trans ?_)
  unfold ownToks peerToks fam
  simp only [bigSep_univ_prod]
  rfl
omit [FloatOps F] in
theorem toks_around :
    (bigSep Finset.univ fun c : Dev nD => bigSep Finset.univ fun t : Tk => (tokAt (c, t) : sProp 𝕄))
      = bigSep Finset.univ fun c : Dev nD => bigSep Finset.univ fun t : Tk => tokAt (deal (c, t)) := by
  rw [← bigSep_univ_prod (fun p : Dev nD × Tk => (tokAt p : sProp 𝕄)), bigSep_univ_equiv dealE (fun p : Dev nD × Tk => (tokAt p : sProp 𝕄)), bigSep_univ_prod]
  rfl

omit [FloatOps F] in
theorem linear_eq (c : Dev nD) : iprop(allPos c 0 ∗ bigSep Finset.univ fun t : Tk => tokAt (deal (c, t))) ⊢ (linear c : sProp 𝕄) := by
  rw [dealt]; unfold linear
  iintro ⟨Ha, Hb, H0, H1, H2, H3⟩
  isplitl [Hb]; · iexact Hb
  isplitl [H0]; · iexact H0
  isplitl [H1]; · iexact H1
  isplitl [H2]; · iexact H2
  isplitl [H3] <;> iassumption

theorem regroup :
    (bigSep Finset.univ fun c : Dev nD => iprop((bigSep Finset.univ fun x : Ck => iprop(∃ κ : ℕ, cellInv ER (rd m) κ (kcell c x)))
          ∗ (allPos c 0 ∗ bigSep Finset.univ fun x : Ck => reached ER (kcell c x) 0) ∗ bigSep Finset.univ fun t : Tk => tokAt (c, t)) : sProp 𝕄)
      ⊢ bigSep Finset.univ (G' m) := by
  rw [bigSep_sep', bigSep_sep', bigSep_sep', ← bigSep_univ_prod (fun p : Dev nD × Ck => iprop(∃ κ : ℕ, cellInv ER (rd m) κ (kcell p.1 p.2))),
    ← bigSep_univ_prod (fun p : Dev nD × Ck => (reached ER (kcell p.1 p.2) 0 : sProp 𝕄)), toks_around]
  iintro ⟨HI, ⟨Hat, #HR⟩, Htok⟩
  ihave HK := (BI.bigSep_exists_pi Finset.univ (fun (p : Dev nD × Ck) (κ : ℕ) => (cellInv ER (rd m) κ (kcell p.1 p.2) : sProp 𝕄))) $$ HI
  icases HK with ⟨%K, #HI⟩
  iapply (show iprop(recs m K ∗ bigSep Finset.univ fun c : Dev nD => (linear c : sProp 𝕄)) ⊢ bigSep Finset.univ (G' m) from by
    refine BIBase.Entails.trans (sep_mono_left (BI.bigSep_of_persistent (Finset.univ : Finset (Dev nD)) (recs m K))) ?_
    rw [← bigSep_sep']
    refine mono_univ fun c => ?_
    unfold G'
    iintro H; iexists K; iexact H)
  isplitr
  · unfold recs; isplitl; · iexact HI
    iexact HR
  · iapply (mono_univ fun c => linear_eq (F := F) c)
    iapply (Entails.of_eq (bigSep_sep' Finset.univ (fun c : Dev nD => (allPos c 0 : sProp 𝕄)) fun c => bigSep Finset.univ fun t : Tk => tokAt (deal (c, t))).symm)
    isplitl [Hat] <;> iassumption

/-- The step taken while every device's semaphores are together. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  BIBase.Entails.trans (BIBase.Entails.trans (mono_univ fun c => core_alloc m c) (bigSep_fupd _ _)) (BI.fupd_mono (regroup m))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G'
  iintro ⟨-, Hlev, Hcr, -, ⟨%K, HR, Hlin⟩⟩
  ihave Hc := (creds (F := F) c) $$ Hcr
  imodintro
  unfold start
  isplitl
  · isplitr [Hc]
    · iexists K
      isplitr [Hlin]
      · unfold records recs
        icases HR with ⟨HI, Hr⟩
        isplitl [HI]; · iexact HI
        isplitl [Hr] <;> iassumption
      · iexact Hlin
    · iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [sems0_eq]
  iintro ⟨Hs, Hl, Hu, Ho⟩
  isplitl [Hu]; · iexact Hu
  isplitl [Ho]; · iexact Ho
  isplitl [Hs] <;> iassumption

theorem stage_low (w : Fin (cfgs 0).W) (s : Fin ((cfgs 0).win w).nbuf) : (((cfgs 0).win w).sem s).val < 4 := by
  fin_cases w <;> fin_cases s <;> decide

theorem waits (c : Dev nD) : (levAts L lv : sProp 𝕄) ⊢ Pipeline.cellsWaits cfgs (dats m ρ) () 0 c :=
  Pipeline.cellsWaits_intro cfgs (dats m ρ) () 0 c fun w s t =>
    mayWait c _ 0 _ (by
      rcases t with ⟨_ | _, ht⟩
      · exact above_O₀ c
      · exact above_zero 0) (by
        have h : dec (SemLoc.dma (((cfgs 0).win w).sem s)) = none := dec_stage _ (stage_low w s)
        show cellLv (dec (SemLoc.dma (((cfgs 0).win w).sem s))) ≤ 0
        rw [h]; exact le_refl 0)

/-! ### The run -/

/-- A window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution of @main terminates, with every window's array at the
    computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The three operand arrays hold what they held. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Cert.Run

end
-- ==== Proof.Frames.lean ====
/-
The final contents of the four arrays, and the three claims that the programs run and leave their arguments unchanged.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (K : Dev nD × Ck → ℕ)

variable (ρ : Dev nD → PrngReg)

/-- The result window's one block is the whole array. -/
theorem read_blk3 (f : (main_v1 : Ref sig .tc).ty.Contents (Elt F)) : (win0_3.blk (0 : Fin 1)).view.read (Elt F) f = f :=
  Memref.read_access_unit_zero (Elt F) main_v1 (funext fun a => by fin_cases a <;> decide) (fun a => by fin_cases a <;> decide) f

/-- The result array ends at the computed contents, the same on every device. -/
theorem finalA_out (c : Dev nD) : finalA m ρ c 3 = outBuf m := by
  refine (read_blk3 (finalA m ρ c 3)).symm.trans ?_
  unfold finalA
  rw [show cfg0.N = (⟨0, Nat.one_pos⟩ : Fin cfg0.N).val + 1 from rfl, (dats m ρ 0 c).arrAt_succ (3 : Fin 4) ⟨0, Nat.one_pos⟩]
  rw [if_pos (show (cfg0.win (3 : Fin 4)).flush ⟨0, Nat.one_pos⟩ = true from by decide)]
  exact View.read_write_univ _ _

/-- From any memory with zero counters @main terminates on every device with the result array at the computed contents,
    the arguments unchanged and every semaphore counter at zero. -/
theorem run_value : θ_run defs (onTc (τ := τ) (main (F := F))) ⟨m, fun _ => 0, ρ⟩ (fun r =>
    (∀ c : Dev nD, r.2.mem ((c : Thread nD τ).loc main_v1) = outBuf m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0) :=
  (θ_run defs _ _).mono (fun _ h => ⟨fun c => ⟨(h.1 c 3).trans (finalA_out m ρ c), (h.1 c 0).trans (finalA_in m ρ c 0 rfl),
    (h.1 c 1).trans (finalA_in m ρ c 1 rfl), (h.1 c 2).trans (finalA_in m ρ c 2 rfl)⟩, h.2⟩) (run_main m ρ)

/-- In particular it leaves its arguments unchanged, over any float values. -/
theorem frame_any : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0) :=
  (θ_run defs _ _).mono (fun _ h => ⟨fun c => (h.1 c).2, h.2⟩) (run_value m ρ)

/-- The kernel read over the ideal values runs and leaves its arguments unchanged. -/
theorem frame_ideal : Cert.quiescent_KernelIdeal := fun m ρ _ => frame_any (F := Ideal) m ρ

/-- The kernel as printed and as read over the ideal values have the same body, -/
theorem defs₀_eq : Cert.Kernel.defs₀ (F := Bits) = Cert.KernelIdeal.defs₀ (F := Bits) := by
  unfold Cert.Kernel.defs₀ Cert.KernelIdeal.defs₀
  refine congrArg Defs.onTc ?_
  funext l a
  match l with
  | 0 => rfl
  | ⟨n + 1, h⟩ => exact absurd h (by omega)
/-- and the same definitions. -/
theorem defs_eq : Cert.Kernel.defs (F := Bits) = Cert.KernelIdeal.defs (F := Bits) :=
  congrArg (Pipeline.defs Cert.Kernel.pcfgs) defs₀_eq

/-- The kernel as printed runs and leaves its arguments unchanged: its text is the same. -/
theorem frame_kernel : Cert.quiescent_Kernel := fun m ρ _ => by
  rw [defs_eq]
  exact frame_any (F := Bits) m ρ

/-- The reference runs and leaves its arguments unchanged. -/
theorem frame_ref : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Run

end
-- ==== Proof.Arith.lean ====
/-
The arithmetic of one element, over the ideal values: what the kernel's block and the reference make of it.
-/
module

public import proofs.«01_k».proof.Proof.Program
public import proofs.«01_k».proof.Proof.Gen.ReferenceIdeal
public import Idealize.ShloMosaic.Lib.ValueIdx
public import Idealize.ShloMosaic.Lib.Pointwise

@[expose] public section

noncomputable section

namespace Cert.Run

open Idealize.ShloMosaic

/-- Entry `j` of a row `y` divided by its root mean square, the small constant added, and scaled by `g`. -/
def normed (y g : Fin 512 → EReal) (j : Fin 512) : EReal :=
  Ideal.div (y j) (Ideal.sqrt (Ideal.div (∑ k, y k * y k) (Ideal.ofBits .f32 0x44000000#32) + Ideal.ofBits .f32 0x358637BD#32)) * g j

section Kernel

open Cert.KernelIdeal Cert.KernelIdeal.Gen

/-- One element of a block's value: the row is the sum of the five loaded rows. -/
theorem blockVal_apply (p : Vec Ideal S1x32x512 .bf16) (r : Vec Ideal S32x512 .bf16) (l0 l2 l1 : Vec Ideal S1x1x32x512 .bf16) (g : Vec Ideal S512 .bf16)
    (i : Fin 32) (j : Fin 512) :
    blockVal p r l0 l2 l1 g (ix2 i j)
      = normed (fun k => p (ix3 0 i k) + r (ix2 i k) + l0 (ix4 0 0 i k) + l2 (ix4 0 0 i k) + l1 (ix4 0 0 i k)) (fun k => g (ix1 k)) j := by
  unfold blockVal k0_pay6 k0_pay5 normed
  pointwise

end Kernel

section Reference

open Cert.ReferenceIdeal Cert.ReferenceIdeal.Gen

/-- The reference's rows before the normalisation: the sum over the devices and the residual. -/
abbrev refSum (x : FVec Ideal S4x512x512 .bf16) (r : FVec Ideal S512x512 .bf16) : FVec Ideal S512x512 .f32 :=
  addf (Host.reduceAdd (extf .f32 x bitsLt_bf16_f32) (constant S_ .f32 0x00000000#32) reducesTo_S4x512x512_S512x512_d0 h_S_) (extf .f32 r bitsLt_bf16_f32)

/-- The reference's result from its arguments. -/
abbrev refOut (x : FVec Ideal S4x512x512 .bf16) (r : FVec Ideal S512x512 .bf16) (g : FVec Ideal S512 .bf16) : FVec Ideal S512x512 .bf16 :=
  truncf .bf16 (mulf (Host.divf (refSum x r) (broadcastInDim S512x512 ![0, 1] bcast_S512x1_S512x512_0_1 (Host.sqrt (addf (Host.divf (broadcastInDim S512x1 ![0] bcast_S512_S512x1_0 (Host.reduceAdd (mulf (refSum x r) (refSum x r)) (constant S_ .f32 0x00000000#32) reducesTo_S512x512_S512_d1 h_S_)) (broadcastInDim S512x1 ![] bcast_S_S512x1 (constant S_ .f32 0x44000000#32))) (broadcastInDim S512x1 ![] bcast_S_S512x1 (constant S_ .f32 0x358637BD#32)))))) (broadcastInDim S512x512 ![0, 1] bcast_S1x512_S512x512_0_1 (broadcastInDim S1x512 ![1] bcast_S512_S1x512_1 (extf .f32 g bitsLt_bf16_f32)))) bitsLt_bf16_f32

/-- One element of the reference's result. -/
theorem refOut_apply (x : FVec Ideal S4x512x512 .bf16) (r : FVec Ideal S512x512 .bf16) (g : FVec Ideal S512 .bf16) (i j : Fin 512) :
    refOut x r g (ix2 i j) = normed (fun k => (∑ d : Fin 4, x (ix3 d i k)) + r (ix2 i k)) (fun k => g (ix1 k)) j := by
  unfold refOut refSum normed
  pointwise

end Reference

end Cert.Run

end
-- ==== Proof.Value.lean ====
/-
The kernel's result over the ideal values: element by element it is the reference's.
-/
module

public import proofs.«01_k».proof.Proof.Frames
public import proofs.«01_k».proof.Proof.Arith

@[expose] public section

noncomputable section

namespace Cert.Run

open Cert.KernelIdeal Cert.KernelIdeal.Gen
open Idealize.ShloMosaic
open Idealize.ShloMosaic.TcCoe
open Idealize.SL.Sem

variable (m : (ℓ : Loc nD τ sig) → Buf (Elt Ideal) ℓ)

/-! ## What a device loads, element by element -/

/-- The staged operands are the operand arrays. -/
theorem xstg_eq (c : Dev nD) : xstg m c = m ((c : Thread nD τ).loc main_arg0) :=
  Memref.read_access_unit_zero (Elt Ideal) main_arg0 (funext fun a => by fin_cases a <;> decide) (fun a => by fin_cases a <;> decide) _
theorem rstg_eq (c : Dev nD) : rstg m c = m ((c : Thread nD τ).loc main_arg1) :=
  Memref.read_access_unit_zero (Elt Ideal) main_arg1 (funext fun a => by fin_cases a <;> decide) (fun a => by fin_cases a <;> decide) _
theorem gstg_eq (c : Dev nD) : gstg m c = m ((c : Thread nD τ).loc main_arg2) :=
  Memref.read_access_unit_zero (Elt Ideal) main_arg2 (funext fun a => by fin_cases a <;> decide) (fun a => by fin_cases a <;> decide) _

set_option backward.proofsInPublic true in
/-- The row of the whole array that is row `i` of block `b` of device `t`. -/
def rowNo (t : Dev nD) (b : Fin 4) (i : Fin 32) : Fin 512 :=
  ⟨128 * t.val + 32 * b.val + i.val, by have ht : t.val < 4 := t.2; have hb := b.2; have := i.2; omega⟩

/-- An element of the block's own rows. -/
theorem loadX_apply (t : Dev nD) (b : Fin 4) (f : (cc0_stg0_0 : Ref sig .tc).ty.Contents (Elt Ideal)) (i : Fin 32) (k : Fin 512) :
    xM.view.readAt (Elt Ideal) (xR t b).toLoadRect f (ix3 0 i k) = f (ix3 0 (rowNo t b i) k) := by
  show f _ = _
  refine congrArg f (funext fun a => Fin.ext ?_)
  show (k0_off2 t (BitVec.ofNat 32 (32 * b.val))) a + 1 * ((ix3 (0 : Fin 1) i k) a).val = _
  rw [k0_off2_eq]
  fin_cases a
  · rfl
  · show 128 * t.val + 32 * b.val + 1 * i.val = 128 * t.val + 32 * b.val + i.val; omega
  · show 0 + 1 * k.val = k.val; omega
/-- An element of the block's residual rows. -/
theorem loadR_apply (t : Dev nD) (b : Fin 4) (f : (cc0_stg1_0 : Ref sig .tc).ty.Contents (Elt Ideal)) (i : Fin 32) (k : Fin 512) :
    rM.view.readAt (Elt Ideal) (rowR t b).toLoadRect f (ix2 i k) = f (ix2 (rowNo t b i) k) := by
  show f _ = _
  refine congrArg f (funext fun a => Fin.ext ?_)
  show (k0_off3 t (BitVec.ofNat 32 (32 * b.val))) a + 1 * ((ix2 i k) a).val = _
  rw [k0_off3_eq]
  fin_cases a
  · show 128 * t.val + 32 * b.val + 1 * i.val = 128 * t.val + 32 * b.val + i.val; omega
  · show 0 + 1 * k.val = k.val; omega
/-- The scale is loaded whole. -/
theorem loadG_eq (f : (cc0_stg2_0 : Ref sig .tc).ty.Contents (Elt Ideal)) : gM.view.readAt (Elt Ideal) gAll.toLoadRect f = f :=
  Memref.readAt_unit_zero (Elt Ideal) cc0_stg2_0 (funext fun a => by fin_cases a; rfl) _ _

/-- An element of a send buffer. -/
theorem sbuf_apply (c : Dev nD) (R k : Fin 512) : sbuf m c (ix2 R k) = m ((c : Thread nD τ).loc main_arg0) (ix3 0 R k) := by
  unfold sbuf k0_pay1
  rw [xstg_eq]
  pointwise

/-- An element of the rows a device sends. -/
theorem sentV_apply (c : Dev nD) (b : Fin 4) (o : Fin 3) (i : Fin 32) (k : Fin 512) :
    sentV m c b o (ix2 i k) = m ((c : Thread nD τ).loc main_arg0) (ix3 0 (rowNo (tgt c o) b i) k) := by
  rw [← sbuf_apply m c]
  show sbuf m c _ = _
  refine congrArg (sbuf m c) (funext fun a => Fin.ext ?_)
  show (k0_off1 c (BitVec.ofNat 32 (1 + o.val)) (BitVec.ofNat 32 (32 * b.val))) a + 1 * ((ix2 i k) a).val = _
  rw [off1_eq]
  fin_cases a
  · show 128 * (tgt c o).val + 32 * b.val + 1 * i.val = 128 * (tgt c o).val + 32 * b.val + i.val; omega
  · show 0 + 1 * k.val = k.val; omega

/-- An element of a landed block: the sender's partial sum at the receiver's row. -/
theorem landedV_apply (t : Dev nD) (b : Fin 4) (o : Fin 3) (i : Fin 32) (k : Fin 512) :
    landedV m t b o (ix4 0 0 i k) = m ((org t o : Thread nD τ).loc main_arg0) (ix3 0 (rowNo t b i) k) := by
  have h := sentV_apply m (org t o) b o i k
  rw [tgt_org] at h
  rw [← h]
  unfold landedV unsq
  pointwise

/-- The arrays of a device, element by element. -/
def xArr (c : Dev nD) (R k : Fin 512) : EReal := m ((c : Thread nD τ).loc main_arg0) (ix3 0 R k)
def rArr (c : Dev nD) (R k : Fin 512) : EReal := m ((c : Thread nD τ).loc main_arg1) (ix2 R k)
def gArr (c : Dev nD) (k : Fin 512) : EReal := m ((c : Thread nD τ).loc main_arg2) (ix1 k)

/-- An element of a block's value, from the arrays of all devices. -/
theorem blkV_apply (t : Dev nD) (b : Fin 4) (i : Fin 32) (j : Fin 512) :
    blkV m t b (ix2 i j) = normed (fun k => xArr m t (rowNo t b i) k + rArr m t (rowNo t b i) k
        + xArr m (org t 0) (rowNo t b i) k + xArr m (org t 2) (rowNo t b i) k + xArr m (org t 1) (rowNo t b i) k)
      (gArr m t) j := by
  unfold blkV
  rw [blockVal_apply]
  refine congrArg₂ (fun y g => normed y g j) (funext fun k => ?_) (funext fun k => ?_)
  · rw [loadX_apply, loadR_apply, landedV_apply, landedV_apply, landedV_apply, xstg_eq, rstg_eq]
    rfl
  · rw [loadG_eq, gstg_eq]
    rfl

/-! ## The sum over the devices -/

/-- A device's term, the residual and the three others' terms, in the kernel's order, are the sum over the devices and
    the residual. -/
theorem sum_org (f : Dev nD → EReal) (r : EReal) (t : Dev nD) : f t + r + f (org t 0) + f (org t 2) + f (org t 1) = (∑ d : Fin 4, f d) + r := by
  rw [Fin.sum_univ_four]
  have h : ∀ t : Dev nD, ∀ o, org t o = ((![![3, 2, 1], ![0, 3, 2], ![1, 0, 3], ![2, 1, 0]] : Fin 4 → Fin 3 → Fin 4) t o) := by decide
  rw [h, h, h]
  rcases (by decide : ∀ t : Dev nD, t = (0 : Fin 4) ∨ t = (1 : Fin 4) ∨ t = (2 : Fin 4) ∨ t = (3 : Fin 4)) t with rfl | rfl | rfl | rfl
  · show f (0 : Fin 4) + r + f (3 : Fin 4) + f (1 : Fin 4) + f (2 : Fin 4) = f (0 : Fin 4) + f (1 : Fin 4) + f (2 : Fin 4) + f (3 : Fin 4) + r
    abel
  · show f (1 : Fin 4) + r + f (0 : Fin 4) + f (2 : Fin 4) + f (3 : Fin 4) = f (0 : Fin 4) + f (1 : Fin 4) + f (2 : Fin 4) + f (3 : Fin 4) + r
    abel
  · show f (2 : Fin 4) + r + f (1 : Fin 4) + f (3 : Fin 4) + f (0 : Fin 4) = f (0 : Fin 4) + f (1 : Fin 4) + f (2 : Fin 4) + f (3 : Fin 4) + r
    abel
  · show f (3 : Fin 4) + r + f (2 : Fin 4) + f (0 : Fin 4) + f (1 : Fin 4) = f (0 : Fin 4) + f (1 : Fin 4) + f (2 : Fin 4) + f (3 : Fin 4) + r
    abel

set_option maxRecDepth 8000 in
/-- The result is the reference's, when each device holds its block of the partial sums and a copy of the other two
    arguments. -/
theorem outBuf_eq (x : FVec Ideal Cert.ReferenceIdeal.S4x512x512 .bf16) (r : FVec Ideal Cert.ReferenceIdeal.S512x512 .bf16)
    (g : FVec Ideal Cert.ReferenceIdeal.S512 .bf16)
    (hx : ∀ c : Dev nD, m ((c : Thread nD τ).loc main_arg0) = Layout.block ⟨3, ![1, 512, 512]⟩ ⟨3, ![4, 512, 512]⟩ 0 4 c x)
    (hr : ∀ c : Dev nD, m ((c : Thread nD τ).loc main_arg1) = r) (hg : ∀ c : Dev nD, m ((c : Thread nD τ).loc main_arg2) = g) :
    outBuf m = refOut x r g := by
  have hx' : ∀ (c : Dev nD) (R k : Fin 512), xArr m c R k = x (ix3 c R k) := by
    intro c R k
    unfold xArr
    rw [hx c, Layout.block_apply]
    refine congrArg x (funext fun a => Fin.ext ?_)
    rw [Layout.Tiles.idx_val]
    fin_cases a
    · show c.val * 1 + 0 = c.val; omega
    · rfl
    · rfl
  funext i
  obtain ⟨R, j, rfl⟩ : ∃ R j, i = ix2 (n0 := 512) (n1 := 512) R j := ⟨i 0, i 1, funext fun a => by fin_cases a <;> rfl⟩
  rw [refOut_apply]
  have hpos : posOf (ix2 R j) = ix2 ⟨R.val % 32, by omega⟩ j := rfl
  show blkV m (devOf (ix2 R j)) (blkOf (ix2 R j)) (posOf (ix2 R j)) = _
  rw [hpos, blkV_apply]
  have hrow : rowNo (devOf (ix2 R j)) (blkOf (ix2 R j)) ⟨R.val % 32, by omega⟩ = R :=
    Fin.ext (show 128 * (R.val / 128) + 32 * (R.val % 128 / 32) + R.val % 32 = R.val by omega)
  rw [hrow]
  refine congrArg₂ (fun y g => normed y g j) (funext fun k => ?_) (funext fun k => congrFun (hg _) _)
  rw [hx', hx', hx', hx', show rArr m (devOf (ix2 R j)) R k = r (ix2 R k) from congrFun (hr _) _]
  exact sum_org (fun d => x (ix3 d R k)) _ _

/-! ## The value claim -/

/-- The kernel's result on every device is the reference's. -/
theorem value_eq : Cert.algebraic_KernelIdeal_ReferenceIdeal := by
  intro m ρ m' ρ' _ hag
  refine ⟨refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2)), ?_, ?_⟩
  · have e := outBuf_eq m _ _ _ (fun c => (hag c).1) (fun c => (hag c).2.1) (fun c => (hag c).2.2)
    exact (θ_run Cert.KernelIdeal.defs _ _).mono (fun _ h c => ⟨((h.1 c).1).trans e, (h.1 c).2⟩) (run_value (F := Ideal) m ρ)
  · exact (θ_run Cert.ReferenceIdeal.defs _ _).mono (fun _ h => h 0) (Cert.ReferenceIdeal.Value.run (F := Ideal) m' ρ')

end Cert.Run

end
-- ==== Proof.lean ====
/-
The proof of `Cert.Claim`: the frames of the three programs, that the ideal reading is the kernel's own text, and that
over the ideal values the kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The certificate: the three programs run and leave their arguments unchanged, the kernel's ideal reading is its own
    text, and over the ideal values its result is the reference's on every device. -/
theorem claim : Cert.Claim := ⟨Cert.Kernel.Gen.facts, Cert.KernelIdeal.Gen.facts, Cert.ReferenceIdeal.Gen.facts,
  Cert.Run.frame_kernel, Cert.Run.frame_ideal, Cert.Run.frame_ref, trivial, Cert.Run.value_eq⟩

end Cert.Proof

end
